-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_and_finite [hPre_graph_and_finite : Cert.Pre_graph_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_graph_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_and_finite [hPre_graph_and_finite : Cert.Pre_graph_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_graph_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_graph_and_finite [hKernelIdeal : Cert.KernelIdeal.Facts] [hPre_graph_and_finite : Cert.Pre_graph_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_graph_and_finite [hReferenceIdeal : Cert.ReferenceIdeal.Facts] [hPre_graph_and_finite : Cert.Pre_graph_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_graph_and_finite [hKernelIdeal : Cert.KernelIdeal.Facts] [hReferenceIdeal : Cert.ReferenceIdeal.Facts] [hPre_graph_and_finite : Cert.Pre_graph_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_graph_and_finite : Cert.Pre_graph_and_finite.Facts),
    quiescent_Kernel (hKernel := hKernel)
    ∧ quiescent_KernelIdeal (hKernelIdeal := hKernelIdeal)
    ∧ quiescent_KernelIdeal_pre_graph_and_finite (hKernelIdeal := hKernelIdeal) (hPre_graph_and_finite := hPre_graph_and_finite)
    ∧ quiescent_ReferenceIdeal (hReferenceIdeal := hReferenceIdeal)
    ∧ quiescent_ReferenceIdeal_pre_graph_and_finite (hReferenceIdeal := hReferenceIdeal) (hPre_graph_and_finite := hPre_graph_and_finite)
    ∧ preserves_Kernel_KernelIdeal
    ∧ algebraic_KernelIdeal_ReferenceIdeal_pre_graph_and_finite (hKernelIdeal := hKernelIdeal) (hReferenceIdeal := hReferenceIdeal) (hPre_graph_and_finite := hPre_graph_and_finite)
-- ==== Pre_graph_and_finite.lean ====
abbrev S1x4096x128 : Shape := ⟨3, ![1, 4096, 128]⟩
abbrev S1x4096x4096 : Shape := ⟨3, ![1, 4096, 4096]⟩
abbrev S1x4096x64 : Shape := ⟨3, ![1, 4096, 64]⟩
abbrev S128x2x64 : Shape := ⟨3, ![128, 2, 64]⟩
abbrev S64x2x1 : Shape := ⟨3, ![64, 2, 1]⟩
abbrev S128 : Shape := ⟨1, ![128]⟩
abbrev S4096x1 : Shape := ⟨2, ![4096, 1]⟩
abbrev S192x64 : Shape := ⟨2, ![192, 64]⟩
abbrev S64x64 : Shape := ⟨2, ![64, 64]⟩
abbrev S_ : Shape := ⟨0, ![]⟩

class Facts : Prop where
  bcast_S_S1x4096x4096 : S_.BroadcastsInDim S1x4096x4096 (![] : Fin 0 → Fin S1x4096x4096.rank)
  bcast_S_S1x4096x128 : S_.BroadcastsInDim S1x4096x128 (![] : Fin 0 → Fin S1x4096x128.rank)
  bcast_S_S128x2x64 : S_.BroadcastsInDim S128x2x64 (![] : Fin 0 → Fin S128x2x64.rank)
  bcast_S_S64x2x1 : S_.BroadcastsInDim S64x2x1 (![] : Fin 0 → Fin S64x2x1.rank)

variable [Facts]

def fn {F : FTy → Type} [FloatOps F] (main_arg0 : FVec F S1x4096x128 .f32) (main_arg1 : FVec F S1x4096x4096 .f32) (main_arg2 : FVec F S1x4096x64 .f32) (main_arg3 : FVec F S128x2x64 .f32) (main_arg4 : FVec F S64x2x1 .f32) (main_arg5 : FVec F S64x2x1 .f32) (main_arg6 : FVec F S128 .f32) (main_arg7 : FVec F S4096x1 .f32) (main_arg8 : FVec F S4096x1 .f32) (main_arg9 : FVec F S4096x1 .f32) (main_arg10 : FVec F S192x64 .f32) (main_arg11 : FVec F S192x64 .f32) (main_arg12 : FVec F S192x64 .f32) (main_arg13 : FVec F S64x64 .f32) : IVec S1x4096x4096 1 × IVec S1x4096x128 1 × IVec S128x2x64 1 × IVec S64x2x1 1 × IVec S64x2x1 1 :=
  let main_cst : FVec F S_ .f32 := constant S_ .f32 0x00000000#32
  let main_v0 : FVec F S1x4096x4096 .f32 := broadcastInDim S1x4096x4096 ![] bcast_S_S1x4096x4096 main_cst
  let main_v1 : IVec S1x4096x4096 1 := cmpf .oeq main_arg1 main_v0
  let main_cst_0 : FVec F S_ .f32 := constant S_ .f32 0x3F800000#32
  let main_v2 : FVec F S1x4096x4096 .f32 := broadcastInDim S1x4096x4096 ![] bcast_S_S1x4096x4096 main_cst_0
  let main_v3 : IVec S1x4096x4096 1 := cmpf .oeq main_arg1 main_v2
  let main_v4 : IVec S1x4096x4096 1 := ori main_v1 main_v3
  let main_v5 : FVec F S1x4096x128 .f32 := Host.absf main_arg0
  let main_cst_1 : FVec F S_ .f32 := constant S_ .f32 0x7F800000#32
  let main_v6 : FVec F S1x4096x128 .f32 := broadcastInDim S1x4096x128 ![] bcast_S_S1x4096x128 main_cst_1
  let main_v7 : IVec S1x4096x128 1 := cmpf .olt main_v5 main_v6
  let main_v8 : FVec F S128x2x64 .f32 := Host.absf main_arg3
  let main_cst_2 : FVec F S_ .f32 := constant S_ .f32 0x7F800000#32
  let main_v9 : FVec F S128x2x64 .f32 := broadcastInDim S128x2x64 ![] bcast_S_S128x2x64 main_cst_2
  let main_v10 : IVec S128x2x64 1 := cmpf .olt main_v8 main_v9
  let main_v11 : FVec F S64x2x1 .f32 := Host.absf main_arg4
  let main_cst_3 : FVec F S_ .f32 := constant S_ .f32 0x7F800000#32
  let main_v12 : FVec F S64x2x1 .f32 := broadcastInDim S64x2x1 ![] bcast_S_S64x2x1 main_cst_3
  let main_v13 : IVec S64x2x1 1 := cmpf .olt main_v11 main_v12
  let main_v14 : FVec F S64x2x1 .f32 := Host.absf main_arg5
  let main_cst_4 : FVec F S_ .f32 := constant S_ .f32 0x7F800000#32
  let main_v15 : FVec F S64x2x1 .f32 := broadcastInDim S64x2x1 ![] bcast_S_S64x2x1 main_cst_4
  let main_v16 : IVec S64x2x1 1 := cmpf .olt main_v14 main_v15
  (main_v4, main_v7, main_v10, main_v13, main_v16)
-- ==== Kernel.lean ====
abbrev S1x4096x128 : Shape := ⟨3, ![1, 4096, 128]⟩
abbrev S1x4096x4096 : Shape := ⟨3, ![1, 4096, 4096]⟩
abbrev S1x4096x64 : Shape := ⟨3, ![1, 4096, 64]⟩
abbrev S128x2x64 : Shape := ⟨3, ![128, 2, 64]⟩
abbrev S64x2x1 : Shape := ⟨3, ![64, 2, 1]⟩
abbrev S128 : Shape := ⟨1, ![128]⟩
abbrev S4096x1 : Shape := ⟨2, ![4096, 1]⟩
abbrev S192x64 : Shape := ⟨2, ![192, 64]⟩
abbrev S64x64 : Shape := ⟨2, ![64, 64]⟩
abbrev S4x72 : Shape := ⟨2, ![4, 72]⟩
abbrev S4096x128 : Shape := ⟨2, ![4096, 128]⟩
abbrev S4096x4096 : Shape := ⟨2, ![4096, 4096]⟩
abbrev S4096x64 : Shape := ⟨2, ![4096, 64]⟩
abbrev S128x128 : Shape := ⟨2, ![128, 128]⟩
abbrev S_ : Shape := ⟨0, ![]⟩
abbrev S128x1 : Shape := ⟨2, ![128, 1]⟩
abbrev S2 : Shape := ⟨1, ![2]⟩
abbrev S1x2 : Shape := ⟨2, ![1, 2]⟩
abbrev S128x2 : Shape := ⟨2, ![128, 2]⟩
abbrev S64x2 : Shape := ⟨2, ![64, 2]⟩
abbrev S1x64x1x2 : Shape := ⟨4, ![1, 64, 1, 2]⟩
abbrev S2x64x1x2 : Shape := ⟨4, ![2, 64, 1, 2]⟩
abbrev S128x4 : Shape := ⟨2, ![128, 4]⟩
abbrev S2x128 : Shape := ⟨2, ![2, 128]⟩
abbrev S4x128 : Shape := ⟨2, ![4, 128]⟩
abbrev S64 : Shape := ⟨1, ![64]⟩
abbrev S1x64 : Shape := ⟨2, ![1, 64]⟩
abbrev S512x4096 : Shape := ⟨2, ![512, 4096]⟩
abbrev S1x1 : Shape := ⟨2, ![1, 1]⟩
abbrev S512x64 : Shape := ⟨2, ![512, 64]⟩
abbrev S512x1 : Shape := ⟨2, ![512, 1]⟩
abbrev S512x512 : Shape := ⟨2, ![512, 512]⟩
abbrev S4096x65 : Shape := ⟨2, ![4096, 65]⟩
abbrev S4096x4 : Shape := ⟨2, ![4096, 4]⟩
abbrev S16x4096 : Shape := ⟨2, ![16, 4096]⟩
abbrev S4096x2 : Shape := ⟨2, ![4096, 2]⟩
abbrev S4x4096 : Shape := ⟨2, ![4, 4096]⟩
abbrev S12x4096 : Shape := ⟨2, ![12, 4096]⟩
abbrev S512 : Shape := ⟨1, ![512]⟩
abbrev S512x2 : Shape := ⟨2, ![512, 2]⟩
abbrev S1x4096 : Shape := ⟨2, ![1, 4096]⟩
abbrev S512x65 : Shape := ⟨2, ![512, 65]⟩

abbrev nBuf : Space → Nat
  | .hbm => 79
  | .vmem => 32
  | .smem => 1
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S1x4096x64, .f32⟩
  | .hbm, ⟨3, _⟩ => ⟨S128x2x64, .f32⟩
  | .hbm, ⟨4, _⟩ => ⟨S64x2x1, .f32⟩
  | .hbm, ⟨5, _⟩ => ⟨S64x2x1, .f32⟩
  | .hbm, ⟨6, _⟩ => ⟨S128, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S192x64, .f32⟩
  | .hbm, ⟨11, _⟩ => ⟨S192x64, .f32⟩
  | .hbm, ⟨12, _⟩ => ⟨S192x64, .f32⟩
  | .hbm, ⟨13, _⟩ => ⟨S64x64, .f32⟩
  | .hbm, ⟨14, _⟩ => ⟨S4096x128, .f32⟩
  | .hbm, ⟨15, _⟩ => ⟨S4096x4096, .f32⟩
  | .hbm, ⟨16, _⟩ => ⟨S4096x64, .f32⟩
  | .hbm, ⟨17, _⟩ => ⟨S128x128, .f32⟩
  | .hbm, ⟨18, _⟩ => ⟨S128, .i32⟩
  | .hbm, ⟨19, _⟩ => ⟨S_, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S128, .i32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S128, .i1⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S2, .i32⟩
  | .hbm, ⟨39, _⟩ => ⟨S1x2, .i32⟩
  | .hbm, ⟨40, _⟩ => ⟨S128x2, .i32⟩
  | .hbm, ⟨41, _⟩ => ⟨S128x2, .i32⟩
  | .hbm, ⟨42, _⟩ => ⟨S128x2, .i1⟩
  | .hbm, ⟨43, _⟩ => ⟨S64x2, .f32⟩
  | .hbm, ⟨44, _⟩ => ⟨S1x64x1x2, .f32⟩
  | .hbm, ⟨45, _⟩ => ⟨S2x64x1x2, .f32⟩
  | .hbm, ⟨46, _⟩ => ⟨S128x2, .f32⟩
  | .hbm, ⟨47, _⟩ => ⟨S_, .f32⟩
  | .hbm, ⟨48, _⟩ => ⟨S_, .f32⟩
  | .hbm, ⟨49, _⟩ => ⟨S128x2, .f32⟩
  | .hbm, ⟨50, _⟩ => ⟨S128x2, .f32⟩
  | .hbm, ⟨51, _⟩ => ⟨S64x2, .f32⟩
  | .hbm, ⟨52, _⟩ => ⟨S1x64x1x2, .f32⟩
  | .hbm, ⟨53, _⟩ => ⟨S2x64x1x2, .f32⟩
  | .hbm, ⟨54, _⟩ => ⟨S128x2, .f32⟩
  | .hbm, ⟨55, _⟩ => ⟨S_, .f32⟩
  | .hbm, ⟨56, _⟩ => ⟨S_, .f32⟩
  | .hbm, ⟨57, _⟩ => ⟨S128x2, .f32⟩
  | .hbm, ⟨58, _⟩ => ⟨S128x2, .f32⟩
  | .hbm, ⟨59, _⟩ => ⟨S_, .f32⟩
  | .hbm, ⟨60, _⟩ => ⟨S128x2, .f32⟩
  | .hbm, ⟨61, _⟩ => ⟨S128x2, .f32⟩
  | .hbm, ⟨62, _⟩ => ⟨S128x4, .f32⟩
  | .hbm, ⟨63, _⟩ => ⟨S_, .f32⟩
  | .hbm, ⟨64, _⟩ => ⟨S128x2, .f32⟩
  | .hbm, ⟨65, _⟩ => ⟨S128x2, .f32⟩
  | .hbm, ⟨66, _⟩ => ⟨S128x4, .f32⟩
  | .hbm, ⟨67, _⟩ => ⟨S2x128, .f32⟩
  | .hbm, ⟨68, _⟩ => ⟨S2x128, .f32⟩
  | .hbm, ⟨69, _⟩ => ⟨S_, .f32⟩
  | .hbm, ⟨70, _⟩ => ⟨S2x128, .f32⟩
  | .hbm, ⟨71, _⟩ => ⟨S2x128, .f32⟩
  | .hbm, ⟨72, _⟩ => ⟨S4x128, .f32⟩
  | .hbm, ⟨73, _⟩ => ⟨S64, .f32⟩
  | .hbm, ⟨74, _⟩ => ⟨S1x64, .f32⟩
  | .hbm, ⟨75, _⟩ => ⟨S64, .f32⟩
  | .hbm, ⟨76, _⟩ => ⟨S1x64, .f32⟩
  | .hbm, ⟨77, _⟩ => ⟨S4096x4096, .f32⟩
  | .hbm, ⟨78, _⟩ => ⟨S4096x64, .f32⟩
  | .local _ .vmem, ⟨0, _⟩ => ⟨S4096x128, .f32⟩
  | .local _ .vmem, ⟨1, _⟩ => ⟨S128x128, .f32⟩
  | .local _ .vmem, ⟨2, _⟩ => ⟨S128x4, .f32⟩
  | .local _ .vmem, ⟨3, _⟩ => ⟨S128x4, .f32⟩
  | .local _ .vmem, ⟨4, _⟩ => ⟨S4x128, .f32⟩
  | .local _ .vmem, ⟨5, _⟩ => ⟨S512x4096, .f32⟩
  | .local _ .vmem, ⟨6, _⟩ => ⟨S512x4096, .f32⟩
  | .local _ .vmem, ⟨7, _⟩ => ⟨S512x64, .f32⟩
  | .local _ .vmem, ⟨8, _⟩ => ⟨S512x64, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S1x64, .f32⟩
  | .local _ .vmem, ⟨16, _⟩ => ⟨S1x64, .f32⟩
  | .local _ .vmem, ⟨17, _⟩ => ⟨S192x64, .f32⟩
  | .local _ .vmem, ⟨18, _⟩ => ⟨S192x64, .f32⟩
  | .local _ .vmem, ⟨19, _⟩ => ⟨S192x64, .f32⟩
  | .local _ .vmem, ⟨20, _⟩ => ⟨S64x64, .f32⟩
  | .local _ .vmem, ⟨21, _⟩ => ⟨S512x512, .f32⟩
  | .local _ .vmem, ⟨22, _⟩ => ⟨S512x512, .f32⟩
  | .local _ .vmem, ⟨23, _⟩ => ⟨S512x64, .f32⟩
  | .local _ .vmem, ⟨24, _⟩ => ⟨S512x64, .f32⟩
  | .local _ .vmem, ⟨25, _⟩ => ⟨S4096x65, .bf16⟩
  | .local _ .vmem, ⟨26, _⟩ => ⟨S4096x65, .bf16⟩
  | .local _ .vmem, ⟨27, _⟩ => ⟨S4096x4, .bf16⟩
  | .local _ .vmem, ⟨28, _⟩ => ⟨S16x4096, .bf16⟩
  | .local _ .vmem, ⟨29, _⟩ => ⟨S4096x2, .f32⟩
  | .local _ .vmem, ⟨30, _⟩ => ⟨S4096x64, .f32⟩
  | .local _ .vmem, ⟨31, _⟩ => ⟨S4096x64, .f32⟩
  | .local _ .smem, ⟨0, _⟩ => ⟨S4x72, .i32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_c : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_call0_c_0 : Ref sig .tc := ⟨.hbm, 33, rfl⟩
abbrev main_call0_call0_v12 : Ref sig .tc := ⟨.hbm, 34, rfl⟩
abbrev main_call0_call0_v13 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_cst : Ref sig .tc := ⟨.hbm, 47, rfl⟩
abbrev main_call0_call1_v0 : Ref sig .tc := ⟨.hbm, 48, rfl⟩
abbrev main_call0_call1_v1 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_cst_1 : Ref sig .tc := ⟨.hbm, 55, rfl⟩
abbrev main_call0_call2_v0 : Ref sig .tc := ⟨.hbm, 56, rfl⟩
abbrev main_call0_call2_v1 : Ref sig .tc := ⟨.hbm, 57, rfl⟩
abbrev main_call0_v21 : Ref sig .tc := ⟨.hbm, 58, rfl⟩
abbrev main_call0_cst_2 : Ref sig .tc := ⟨.hbm, 59, rfl⟩
abbrev main_call0_v22 : Ref sig .tc := ⟨.hbm, 60, rfl⟩
abbrev main_call0_v23 : Ref sig .tc := ⟨.hbm, 61, rfl⟩
abbrev main_call0_v24 : Ref sig .tc := ⟨.hbm, 62, rfl⟩
abbrev main_call0_cst_3 : Ref sig .tc := ⟨.hbm, 63, rfl⟩
abbrev main_call0_v25 : Ref sig .tc := ⟨.hbm, 64, rfl⟩
abbrev main_call0_v26 : Ref sig .tc := ⟨.hbm, 65, rfl⟩
abbrev main_call0_v27 : Ref sig .tc := ⟨.hbm, 66, rfl⟩
abbrev main_call0_v28 : Ref sig .tc := ⟨.hbm, 67, rfl⟩
abbrev main_call0_v29 : Ref sig .tc := ⟨.hbm, 68, rfl⟩
abbrev main_call0_cst_4 : Ref sig .tc := ⟨.hbm, 69, rfl⟩
abbrev main_call0_v30 : Ref sig .tc := ⟨.hbm, 70, rfl⟩
abbrev main_call0_v31 : Ref sig .tc := ⟨.hbm, 71, rfl⟩
abbrev main_call0_v32 : Ref sig .tc := ⟨.hbm, 72, rfl⟩
abbrev main_call0_v33 : Ref sig .tc := ⟨.hbm, 73, rfl⟩
abbrev main_call0_v34 : Ref sig .tc := ⟨.hbm, 74, rfl⟩
abbrev main_call0_v35 : Ref sig .tc := ⟨.hbm, 75, rfl⟩
abbrev main_call0_v36 : Ref sig .tc := ⟨.hbm, 76, rfl⟩
abbrev main_v0_0 : Ref sig .tc := ⟨.hbm, 77, rfl⟩
abbrev main_v0_1 : Ref sig .tc := ⟨.hbm, 78, rfl⟩
abbrev main_call0_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c1 : Index := 1#32
  let arg0 : BitVec 32 := BitVec.ofNat 32 (i 0).val
  let v0 : Index := Scalar.indexCast arg0
  ![1, v0.toNat]
def k0_off2 (i : grid0.Coords) : Fin 2 → Nat :=
  let c2 : Index := 2#32
  let arg0 : BitVec 32 := BitVec.ofNat 32 (i 0).val
  let v0 : Index := Scalar.indexCast arg0
  ![2, v0.toNat]
def k0_off3 (i : grid0.Coords) : Fin 2 → Nat :=
  let c3 : Index := 3#32
  let arg0 : BitVec 32 := BitVec.ofNat 32 (i 0).val
  let v2 : Index := Scalar.indexCast arg0
  ![3, v2.toNat]
def k0_off4 (i : grid0.Coords) : Fin 2 → Nat :=
  let c0 : Index := 0#32
  let arg0 : BitVec 32 := BitVec.ofNat 32 (i 0).val
  let v0 : Index := Scalar.indexCast arg0
  ![0, v0.toNat]
def k0_off5 (v3 : BitVec 32) : Fin 2 → Nat :=
  let c0_6 : Index := 0#32
  let c512_i32 : BitVec 32 := 512#32
  let v22 : BitVec 32 := Scalar.muli v3 c512_i32
  let v23 : Index := Scalar.indexCast v22
  ![0, v23.toNat]
def k0_cond2 (v1 : BitVec 32) : BitVec 1 :=
  let c1_i32 : BitVec 32 := 1#32
  let v11 : BitVec 1 := Scalar.cmpi .eq v1 c1_i32
  let v12 : BitVec 32 := Scalar.extui v11
  let c0_i32_1 : BitVec 32 := 0#32
  let v13 : BitVec 1 := Scalar.cmpi .ne v12 c0_i32_1
  v13

def k0_off6 (v3 : BitVec 32) : Fin 2 → Nat :=
  let c512_i32_9 : BitVec 32 := 512#32
  let v33 : BitVec 32 := Scalar.muli v3 c512_i32_9
  let v34 : Index := Scalar.indexCast v33
  let c0_10 : Index := 0#32
  ![v34.toNat, 0]
def k0_off7 (v3 : BitVec 32) : Fin 2 → Nat :=
  let c512_i32_11 : BitVec 32 := 512#32
  let v38 : BitVec 32 := Scalar.muli v3 c512_i32_11
  let v39 : Index := Scalar.indexCast v38
  let c0_12 : Index := 0#32
  ![v39.toNat, 0]
def k0_off8 (v3 : BitVec 32) : Fin 2 → Nat :=
  let c512_i32_13 : BitVec 32 := 512#32
  let v41 : BitVec 32 := Scalar.muli v3 c512_i32_13
  let v42 : Index := Scalar.indexCast v41
  let c2_14 : Index := 2#32
  ![v42.toNat, 2]
def k0_off9 (v3 : BitVec 32) : Fin 2 → Nat :=
  let c512_i32_22 : BitVec 32 := 512#32
  let v57 : BitVec 32 := Scalar.muli v3 c512_i32_22
  let v58 : Index := Scalar.indexCast v57
  let c0_23 : Index := 0#32
  ![v58.toNat, 0]
def k0_off10 (v3 : BitVec 32) : Fin 2 → Nat :=
  let c512_i32_26 : BitVec 32 := 512#32
  let v72 : BitVec 32 := Scalar.muli v3 c512_i32_26
  let v73 : Index := Scalar.indexCast v72
  let c1_27 : Index := 1#32
  ![v73.toNat, 1]
def k0_off11 (v3 : BitVec 32) : Fin 2 → Nat :=
  let c512_i32_28 : BitVec 32 := 512#32
  let v75 : BitVec 32 := Scalar.muli v3 c512_i32_28
  let v76 : Index := Scalar.indexCast v75
  let c3_29 : Index := 3#32
  ![v76.toNat, 3]
def k0_off12 (v3 : BitVec 32) : Fin 2 → Nat :=
  let c512_i32_67 : BitVec 32 := 512#32
  let v154 : BitVec 32 := Scalar.muli v3 c512_i32_67
  let v155 : Index := Scalar.indexCast v154
  let c0_68 : Index := 0#32
  ![v155.toNat, 0]

def k0_chk1 (v1 : BitVec 32) (v3 : BitVec 32) : Prop :=
  (∀ (k0_h2 : k0_cond2 v1 = 1#1), ∀ a, (k0_off5 v3) a + S512x512.size a ≤ S512x4096.size a) ∧
  (∀ (k0_h2 : k0_cond2 v1 = 1#1), ∀ a, (k0_off6 v3) a + S512x2.size a ≤ S4096x2.size a) ∧
  (∀ (k0_h2 : k0_cond2 v1 = 1#1), ∀ a, (k0_off7 v3) a + S512x1.size a ≤ S4096x4.size a) ∧
  (∀ (k0_h2 : k0_cond2 v1 = 1#1), ∀ a, (k0_off8 v3) a + S512x1.size a ≤ S4096x4.size a) ∧
  (∀ (k0_h2 : k0_cond2 v1 = 1#1), ∀ a, (k0_off9 v3) a + S512x65.size a ≤ S4096x65.size a) ∧
  (∀ (k0_h2 : k0_cond2 v1 = 1#1), ∀ a, (k0_off10 v3) a + S512x1.size a ≤ S4096x4.size a) ∧
  (∀ (k0_h2 : k0_cond2 v1 = 1#1), ∀ a, (k0_off11 v3) a + S512x1.size a ≤ S4096x4.size a) ∧
  (∀ (k0_h2 : k0_cond2 v1 = 1#1), ∀ a, (k0_off12 v3) a + S512x64.size a ≤ S4096x64.size a)
theorem k0_off5_inb : ∀ (v1 : BitVec 32) (v3 : BitVec 32) (k0_hw1 : k0_chk1 v1 v3), ∀ (k0_h2 : k0_cond2 v1 = 1#1), ∀ a, (k0_off5 v3) a + S512x512.size a ≤ S512x4096.size a := fun v1 v3 k0_hw1 k0_h2 => k0_hw1.1 k0_h2
theorem k0_off6_inb : ∀ (v1 : BitVec 32) (v3 : BitVec 32) (k0_hw1 : k0_chk1 v1 v3), ∀ (k0_h2 : k0_cond2 v1 = 1#1), ∀ a, (k0_off6 v3) a + S512x2.size a ≤ S4096x2.size a := fun v1 v3 k0_hw1 k0_h2 => k0_hw1.2.1 k0_h2
theorem k0_off7_inb : ∀ (v1 : BitVec 32) (v3 : BitVec 32) (k0_hw1 : k0_chk1 v1 v3), ∀ (k0_h2 : k0_cond2 v1 = 1#1), ∀ a, (k0_off7 v3) a + S512x1.size a ≤ S4096x4.size a := fun v1 v3 k0_hw1 k0_h2 => k0_hw1.2.2.1 k0_h2
theorem k0_off8_inb : ∀ (v1 : BitVec 32) (v3 : BitVec 32) (k0_hw1 : k0_chk1 v1 v3), ∀ (k0_h2 : k0_cond2 v1 = 1#1), ∀ a, (k0_off8 v3) a + S512x1.size a ≤ S4096x4.size a := fun v1 v3 k0_hw1 k0_h2 => k0_hw1.2.2.2.1 k0_h2
theorem k0_off9_inb : ∀ (v1 : BitVec 32) (v3 : BitVec 32) (k0_hw1 : k0_chk1 v1 v3), ∀ (k0_h2 : k0_cond2 v1 = 1#1), ∀ a, (k0_off9 v3) a + S512x65.size a ≤ S4096x65.size a := fun v1 v3 k0_hw1 k0_h2 => k0_hw1.2.2.2.2.1 k0_h2
theorem k0_off10_inb : ∀ (v1 : BitVec 32) (v3 : BitVec 32) (k0_hw1 : k0_chk1 v1 v3), ∀ (k0_h2 : k0_cond2 v1 = 1#1), ∀ a, (k0_off10 v3) a + S512x1.size a ≤ S4096x4.size a := fun v1 v3 k0_hw1 k0_h2 => k0_hw1.2.2.2.2.2.1 k0_h2
theorem k0_off11_inb : ∀ (v1 : BitVec 32) (v3 : BitVec 32) (k0_hw1 : k0_chk1 v1 v3), ∀ (k0_h2 : k0_cond2 v1 = 1#1), ∀ a, (k0_off11 v3) a + S512x1.size a ≤ S4096x4.size a := fun v1 v3 k0_hw1 k0_h2 => k0_hw1.2.2.2.2.2.2.1 k0_h2
theorem k0_off12_inb : ∀ (v1 : BitVec 32) (v3 : BitVec 32) (k0_hw1 : k0_chk1 v1 v3), ∀ (k0_h2 : k0_cond2 v1 = 1#1), ∀ a, (k0_off12 v3) a + S512x64.size a ≤ S4096x64.size a := fun v1 v3 k0_hw1 k0_h2 => k0_hw1.2.2.2.2.2.2.2 k0_h2

def k0_off13 (v5 : BitVec 32) : Fin 2 → Nat :=
  let c512_i32 : BitVec 32 := 512#32
  let v17 : BitVec 32 := Scalar.muli v5 c512_i32
  let v18 : Index := Scalar.indexCast v17
  let c0_4 : Index := 0#32
  ![v18.toNat, 0]
def k0_cond3 (v1 : BitVec 32) : BitVec 1 :=
  let c0_i32_2 : BitVec 32 := 0#32
  let v14 : BitVec 1 := Scalar.cmpi .eq v1 c0_i32_2
  let v15 : BitVec 32 := Scalar.extui v14
  let c0_i32_3 : BitVec 32 := 0#32
  let v16 : BitVec 1 := Scalar.cmpi .ne v15 c0_i32_3
  v16

def k0_chk2 (v1 : BitVec 32) (v5 : BitVec 32) : Prop :=
  (∀ (k0_h3 : k0_cond3 v1 = 1#1), ∀ a, (k0_off13 v5) a + S512x64.size a ≤ S4096x64.size a)
theorem k0_off13_inb : ∀ (v1 : BitVec 32) (v5 : BitVec 32) (k0_hw2 : k0_chk2 v1 v5), ∀ (k0_h3 : k0_cond3 v1 = 1#1), ∀ a, (k0_off13 v5) a + S512x64.size a ≤ S4096x64.size a := fun v1 v5 k0_hw2 k0_h3 => k0_hw2 k0_h3

def k0_off14 (v7 : BitVec 32) : Fin 2 → Nat :=
  let c512_i32_5 : BitVec 32 := 512#32
  let v20 : BitVec 32 := Scalar.muli v7 c512_i32_5
  let v21 : Index := Scalar.indexCast v20
  let c0_6 : Index := 0#32
  ![v21.toNat, 0]

def k0_chk3 (v1 : BitVec 32) (v7 : BitVec 32) : Prop :=
  (∀ (k0_h3 : k0_cond3 v1 = 1#1), ∀ a, (k0_off14 v7) a + S512x64.size a ≤ S4096x64.size a)
theorem k0_off14_inb : ∀ (v1 : BitVec 32) (v7 : BitVec 32) (k0_hw3 : k0_chk3 v1 v7), ∀ (k0_h3 : k0_cond3 v1 = 1#1), ∀ a, (k0_off14 v7) a + S512x64.size a ≤ S4096x64.size a := fun v1 v7 k0_hw3 k0_h3 => k0_hw3 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

def cc0_transform_6 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

def cc0_transform_7 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

def cc0_transform_8 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

def cc0_transform_9 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (k0_off2_inb : ∀ i : grid0.Coords, ∀ a, (k0_off2 i) a + S1x1.size a ≤ S4x72.size a) (numel1_S1x1 : S1x1.numel = 1) (k0_off3_inb : ∀ i : grid0.Coords, ∀ a, (k0_off3 i) a + S1x1.size a ≤ S4x72.size a) (pf : pre0.Contents (Elt F)) (i : grid0.Coords) : Fin 2 → Nat :=
  let arg0 : BitVec 32 := BitVec.ofNat 32 (i 0).val
  let c2 : Index := 2#32
  let v0 : Index := Scalar.indexCast arg0
  let v1 : BitVec 32 := pf.at 0 (Rect.unit (s := S4x72) ![2, v0.toNat] S1x1.size (k0_off2_inb i)) numel1_S1x1
  let c3 : Index := 3#32
  let v2 : Index := Scalar.indexCast arg0
  let v3 : BitVec 32 := pf.at 0 (Rect.unit (s := S4x72) ![3, v2.toNat] S1x1.size (k0_off3_inb i)) numel1_S1x1
  let c0_i32 : BitVec 32 := 0#32
  ![v1.toNat, v3.toNat]

def cc0_transform_17 (k0_off1_inb : ∀ i : grid0.Coords, ∀ a, (k0_off1 i) a + S1x1.size a ≤ S4x72.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S4x72) ![1, v0.toNat] S1x1.size (k0_off1_inb i)) numel1_S1x1
  let c0_i32 : BitVec 32 := 0#32
  let c0_i32_0 : BitVec 32 := 0#32
  ![v1.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S1x4096x128 : Shape := ⟨3, ![1, 4096, 128]⟩
abbrev S1x4096x4096 : Shape := ⟨3, ![1, 4096, 4096]⟩
abbrev S1x4096x64 : Shape := ⟨3, ![1, 4096, 64]⟩
abbrev S128x2x64 : Shape := ⟨3, ![128, 2, 64]⟩
abbrev S64x2x1 : Shape := ⟨3, ![64, 2, 1]⟩
abbrev S128 : Shape := ⟨1, ![128]⟩
abbrev S4096x1 : Shape := ⟨2, ![4096, 1]⟩
abbrev S192x64 : Shape := ⟨2, ![192, 64]⟩
abbrev S64x64 : Shape := ⟨2, ![64, 64]⟩
abbrev S4096x128 : Shape := ⟨2, ![4096, 128]⟩
abbrev S4096x4096 : Shape := ⟨2, ![4096, 4096]⟩
abbrev S4096x64 : Shape := ⟨2, ![4096, 64]⟩
abbrev S_ : Shape := ⟨0, ![]⟩
abbrev S128x1x64 : Shape := ⟨3, ![128, 1, 64]⟩
abbrev S128x64 : Shape := ⟨2, ![128, 64]⟩
abbrev S64x1x1 : Shape := ⟨3, ![64, 1, 1]⟩
abbrev S64x1 : Shape := ⟨2, ![64, 1]⟩
abbrev S1x4096 : Shape := ⟨2, ![1, 4096]⟩
abbrev S4096 : Shape := ⟨1, ![4096]⟩
abbrev S1x128 : Shape := ⟨2, ![1, 128]⟩
abbrev S4096x192 : Shape := ⟨2, ![4096, 192]⟩
abbrev S64x4096 : Shape := ⟨2, ![64, 4096]⟩

abbrev nBuf : Space → Nat
  | .hbm => 150
  | .vmem => 0
  | .smem => 0
  | _ => 0

abbrev hbmTy0_0 (i : Nat) : BufTy := match i % 128 with
  | 0 => ⟨S1x4096x128, .f32⟩
  | 1 => ⟨S1x4096x4096, .f32⟩
  | 2 => ⟨S1x4096x64, .f32⟩
  | 3 => ⟨S128x2x64, .f32⟩
  | 4 => ⟨S64x2x1, .f32⟩
  | 5 => ⟨S64x2x1, .f32⟩
  | 6 => ⟨S128, .f32⟩
  | 7 => ⟨S4096x1, .f32⟩
  | 8 => ⟨S4096x1, .f32⟩
  | 9 => ⟨S4096x1, .f32⟩
  | 10 => ⟨S192x64, .f32⟩
  | 11 => ⟨S192x64, .f32⟩
  | 12 => ⟨S192x64, .f32⟩
  | 13 => ⟨S64x64, .f32⟩
  | 14 => ⟨S4096x128, .f32⟩
  | 15 => ⟨S4096x4096, .f32⟩
  | 16 => ⟨S4096x64, .f32⟩
  | 17 => ⟨S4096x4096, .i32⟩
  | 18 => ⟨S4096x4096, .i32⟩
  | 19 => ⟨S4096x4096, .i1⟩
  | 20 => ⟨S_, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .i1⟩
  | 27 => ⟨S_, .f32⟩
  | 28 => ⟨S_, .f32⟩
  | 29 => ⟨S4096x4096, .f32⟩
  | 30 => ⟨S4096x4096, .f32⟩
  | 31 => ⟨S4096x4096, .f32⟩
  | 32 => ⟨S128x1x64, .f32⟩
  | 33 => ⟨S128x64, .f32⟩
  | 34 => ⟨S4096x64, .f32⟩
  | 35 => ⟨S64x1x1, .f32⟩
  | 36 => ⟨S64x1, .f32⟩
  | 37 => ⟨S4096x1, .f32⟩
  | 38 => ⟨S64x1x1, .f32⟩
  | 39 => ⟨S64x1, .f32⟩
  | 40 => ⟨S4096x1, .f32⟩
  | 41 => ⟨S1x4096, .f32⟩
  | 42 => ⟨S4096x4096, .f32⟩
  | 43 => ⟨S4096x4096, .f32⟩
  | 44 => ⟨S4096x4096, .f32⟩
  | 45 => ⟨S_, .f32⟩
  | 46 => ⟨S_, .f32⟩
  | 47 => ⟨S4096x4096, .f32⟩
  | 48 => ⟨S4096x4096, .i1⟩
  | 49 => ⟨S_, .f32⟩
  | 50 => ⟨S4096x4096, .f32⟩
  | 51 => ⟨S4096x4096, .f32⟩
  | 52 => ⟨S4096x4096, .f32⟩
  | 53 => ⟨S4096x4096, .f32⟩
  | 54 => ⟨S4096x4096, .f32⟩
  | 55 => ⟨S_, .f32⟩
  | 56 => ⟨S4096, .f32⟩
  | 57 => ⟨S_, .f32⟩
  | 58 => ⟨S4096, .f32⟩
  | 59 => ⟨S4096, .f32⟩
  | 60 => ⟨S4096x1, .f32⟩
  | 61 => ⟨S4096x4096, .f32⟩
  | 62 => ⟨S4096x4096, .f32⟩
  | 63 => ⟨S4096x4096, .f32⟩
  | 64 => ⟨S_, .f32⟩
  | 65 => ⟨S4096, .f32⟩
  | 66 => ⟨S4096x1, .f32⟩
  | 67 => ⟨S4096x4096, .f32⟩
  | 68 => ⟨S4096x4096, .f32⟩
  | 69 => ⟨S4096x64, .f32⟩
  | 70 => ⟨S128x1x64, .f32⟩
  | 71 => ⟨S128x64, .f32⟩
  | 72 => ⟨S4096x64, .f32⟩
  | 73 => ⟨S64x1x1, .f32⟩
  | 74 => ⟨S64x1, .f32⟩
  | 75 => ⟨S4096x1, .f32⟩
  | 76 => ⟨S64x1x1, .f32⟩
  | 77 => ⟨S64x1, .f32⟩
  | 78 => ⟨S4096x1, .f32⟩
  | 79 => ⟨S1x4096, .f32⟩
  | 80 => ⟨S4096x4096, .f32⟩
  | 81 => ⟨S4096x4096, .f32⟩
  | 82 => ⟨S4096x4096, .f32⟩
  | 83 => ⟨S_, .f32⟩
  | 84 => ⟨S_, .f32⟩
  | 85 => ⟨S4096x4096, .f32⟩
  | 86 => ⟨S4096x4096, .i1⟩
  | 87 => ⟨S_, .f32⟩
  | 88 => ⟨S4096x4096, .f32⟩
  | 89 => ⟨S4096x4096, .f32⟩
  | 90 => ⟨S4096x4096, .f32⟩
  | 91 => ⟨S4096x4096, .f32⟩
  | 92 => ⟨S4096x4096, .f32⟩
  | 93 => ⟨S_, .f32⟩
  | 94 => ⟨S4096, .f32⟩
  | 95 => ⟨S_, .f32⟩
  | 96 => ⟨S4096, .f32⟩
  | 97 => ⟨S4096, .f32⟩
  | 98 => ⟨S4096x1, .f32⟩
  | 99 => ⟨S4096x4096, .f32⟩
  | 100 => ⟨S4096x4096, .f32⟩
  | 101 => ⟨S4096x4096, .f32⟩
  | 102 => ⟨S_, .f32⟩
  | 103 => ⟨S4096, .f32⟩
  | 104 => ⟨S4096x1, .f32⟩
  | 105 => ⟨S4096x4096, .f32⟩
  | 106 => ⟨S4096x4096, .f32⟩
  | 107 => ⟨S4096x64, .f32⟩
  | 108 => ⟨S4096x128, .f32⟩
  | 109 => ⟨S1x128, .f32⟩
  | 110 => ⟨S4096x128, .f32⟩
  | 111 => ⟨S4096x128, .f32⟩
  | 112 => ⟨S4096x192, .f32⟩
  | 113 => ⟨S4096x64, .f32⟩
  | 114 => ⟨S4096x64, .f32⟩
  | 115 => ⟨S4096x64, .f32⟩
  | 116 => ⟨S4096x64, .f32⟩
  | 117 => ⟨S4096x64, .f32⟩
  | 118 => ⟨S_, .f32⟩
  | 119 => ⟨S4096x64, .f32⟩
  | 120 => ⟨S4096x64, .f32⟩
  | 121 => ⟨S_, .f32⟩
  | 122 => ⟨S4096x64, .f32⟩
  | 123 => ⟨S4096x64, .f32⟩
  | 124 => ⟨S4096x64, .f32⟩
  | 125 => ⟨S4096x64, .f32⟩
  | 126 => ⟨S4096x64, .f32⟩
  | 127 => ⟨S4096x64, .f32⟩
  | _ => ⟨S1x4096x128, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x64, .f32⟩
  | 8 => ⟨S4096x192, .f32⟩
  | 9 => ⟨S4096x64, .f32⟩
  | 10 => ⟨S4096x64, .f32⟩
  | 11 => ⟨S4096x64, .f32⟩
  | 12 => ⟨S4096x64, .f32⟩
  | 13 => ⟨S4096x64, .f32⟩
  | 14 => ⟨S_, .f32⟩
  | 15 => ⟨S4096x64, .f32⟩
  | 16 => ⟨S4096x64, .f32⟩
  | 17 => ⟨S4096x64, .f32⟩
  | 18 => ⟨S4096x64, .f32⟩
  | 19 => ⟨S4096x64, .f32⟩
  | 20 => ⟨S64x4096, .f32⟩
  | 21 => ⟨S4096x4096, .f32⟩
  | _ => ⟨S1x4096x128, .f32⟩

abbrev hbmTy (i : Nat) : BufTy := match i / 128 with
  | 0 => hbmTy0_0 i
  | 1 => hbmTy0_1 i
  | _ => ⟨S1x4096x128, .f32⟩

abbrev bufTy : (tb : Table) → Fin (tcTables nBuf tb) → BufTy
  | .hbm, ⟨i, _⟩ => hbmTy i
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_call2_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_call3_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_cst_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_10 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_v77 : Ref sig .tc := ⟨.hbm, 120, rfl⟩
abbrev main_cst_12 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_13 : Ref sig .tc := ⟨.hbm, 129, rfl⟩
abbrev main_v85 : Ref sig .tc := ⟨.hbm, 130, rfl⟩
abbrev main_v86 : Ref sig .tc := ⟨.hbm, 131, rfl⟩
abbrev main_cst_14 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_15 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩

abbrev nD : Nat := 1
abbrev τ : Topo := Topo.v7x

variable {F : FTy → Type} [FloatOps F]
-- ==== Proof.Launch.lean ====
module

public import proofs.«01_k».proof.Proof.Gen.KernelIdeal
public import Idealize.ShloMosaic.Lib.Pipeline.Kit
public import Idealize.ShloMosaic.Lib.Pipeline.Regions

@[expose] public section

-- the launch kit's decided enumerations over 18 windows recurse past the default depth
set_option maxRecDepth 2816

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct, its pipelines pinned at any contents of their tables. -/
theorem cellOf_inj (a : (p : Fin 1) → (pcfgs (F := F) p).Adm) :
    Function.Injective (Pipeline.cellOf (nD := nD) (τ := τ) (Pipeline.pin (pcfgs (F := F)) a)) :=
  Pipeline.cellOf_injective_of_table (Pipeline.pin (pcfgs (F := F)) a) semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- The prefetched tables unscoped, distinct, and no window's array. -/
theorem preFacts0 : Pipeline.PreFacts spec0 pre0 := by decide
/-- No window's block is empty. -/
theorem block_pos0 : ∀ w : Fin 18, 0 < (spec0 w).block.numel := by decide
/-- The windows' arrays and the staging memrefs are whole buffers. -/
theorem arr_whole0 : ∀ w : Fin 18, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | ⟨_ + 18, h⟩ => absurd h (Nat.not_lt.2 (Nat.le_add_left _ _))
theorem stage_whole0 : ∀ (w : Fin 18) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | 17 => fun s => hstage0_17 (s.cast nbuf0_17) | ⟨_ + 18, h⟩ => absurd h (Nat.not_lt.2 (Nat.le_add_left _ _))
/-- The five, bundled: what the kit-form launch theorems (Lib/Pipeline/Kit.lean) and a certificate citing the
    Launch.lean theorems by field take. -/
theorem launch0 : Pipeline.PLaunchFacts (nD := nD) (τ := τ) (pcfgs (F := F)) 0 :=
  ⟨cellOf_inj, winFacts0, preFacts0, block_pos0, arr_whole0, stage_whole0⟩

/-- The grid has 72 points. -/
theorem N_0 : grid0.N = 72 := by decide

/-- The windows conjoined one by one. -/
theorem bigSep_W0 {M : Type} [URA M] (Φ : Fin 18 → sProp M) : bigSep Finset.univ Φ = iprop(Φ (0 : Fin 18) ∗ Φ (1 : Fin 18) ∗ Φ (2 : Fin 18) ∗ Φ (3 : Fin 18) ∗ Φ (4 : Fin 18) ∗ Φ (5 : Fin 18) ∗ Φ (6 : Fin 18) ∗ Φ (7 : Fin 18) ∗ Φ (8 : Fin 18) ∗ Φ (9 : Fin 18) ∗ Φ (10 : Fin 18) ∗ Φ (11 : Fin 18) ∗ Φ (12 : Fin 18) ∗ Φ (13 : Fin 18) ∗ Φ (14 : Fin 18) ∗ Φ (15 : Fin 18) ∗ Φ (16 : Fin 18) ∗ Φ (17 : Fin 18)) :=
  bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide) Φ
/-- The core's scoped buffers that are no staging buffer of custom_call 0, each whole at some contents:
    `cc0_scratch0`, `cc0_scratch1`, `cc0_scratch2`, `cc0_scratch3`, `cc0_scratch4`, `cc0_scratch5`, `cc0_scratch6`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f)) :=
  Pipeline.scopedRest_eq_of_list spec0 c [cc0_scratch0, cc0_scratch1, cc0_scratch2, cc0_scratch3, cc0_scratch4, cc0_scratch5, cc0_scratch6] (by decide) (by decide)
-- the unscoped rest of custom_call 0 is 61 buffers: not enumerated (routed whole, as `Pipeline.unscopedRest`)

/-! ## @main as segments and as a chain of items (Lib/Pipeline/Regions.lean `θ_run_regions_kit`, `Pipeline.chain`) -/

/-- 64 host operations of @kernel (main_call0), in order. -/
abbrev hostOps0 : List (HloOp τ sig (Elt F)) :=
  ( StableHlo.TRef.nullary (.of main_call0_c : StableHlo.TRef sig ⟨S4x72, .i32⟩) (fun i => lit0 (S4x72.rowMajor i))
  :: StableHlo.TRef.reshape (.of main_arg0 : StableHlo.TRef sig ⟨S1x4096x128, .f32⟩) (.of main_call0_v0 : StableHlo.TRef sig ⟨S4096x128, .f32⟩) (rfl : (.f32 : EltTy) = .f32) shapeCasts_S1x4096x128_S4096x128
  :: StableHlo.TRef.reshape (.of main_arg1 : StableHlo.TRef sig ⟨S1x4096x4096, .f32⟩) (.of main_call0_v1 : StableHlo.TRef sig ⟨S4096x4096, .f32⟩) (rfl : (.f32 : EltTy) = .f32) shapeCasts_S1x4096x4096_S4096x4096
  :: StableHlo.TRef.reshape (.of main_arg2 : StableHlo.TRef sig ⟨S1x4096x64, .f32⟩) (.of main_call0_v2 : StableHlo.TRef sig ⟨S4096x64, .f32⟩) (rfl : (.f32 : EltTy) = .f32) shapeCasts_S1x4096x64_S4096x64
  :: StableHlo.TRef.reshape (.of main_arg3 : StableHlo.TRef sig ⟨S128x2x64, .f32⟩) (.of main_call0_v3 : StableHlo.TRef sig ⟨S128x128, .f32⟩) (rfl : (.f32 : EltTy) = .f32) shapeCasts_S128x2x64_S128x128
  :: StableHlo.TRef.nullary (.of main_call0_v4 : StableHlo.TRef sig ⟨S128, .i32⟩) (iotaInDim S128 32 0)
  :: StableHlo.TRef.nullary (.of main_call0_c_0 : StableHlo.TRef sig ⟨S_, .i32⟩) (constantI S_ 32 64#32)
  :: StableHlo.TRef.unary (.of main_call0_c_0 : StableHlo.TRef sig ⟨S_, .i32⟩) (.of main_call0_call0_v0 : StableHlo.TRef sig ⟨S_, .i32⟩) id
  :: StableHlo.TRef.unary (.of main_call0_call0_v0 : StableHlo.TRef sig ⟨S_, .i32⟩) (.of main_call0_call0_v1 : StableHlo.TRef sig ⟨S128, .i32⟩) (broadcastInDim S128 ![] bcast_S_S128)
  :: StableHlo.TRef.binary (.of main_call0_v4 : StableHlo.TRef sig ⟨S128, .i32⟩) (.of main_call0_call0_v1 : StableHlo.TRef sig ⟨S128, .i32⟩) (.of main_call0_call0_v2 : StableHlo.TRef sig ⟨S128, .i32⟩) Host.divsi
  :: StableHlo.TRef.unary (.of main_call0_v4 : StableHlo.TRef sig ⟨S128, .i32⟩) (.of main_call0_call0_v3 : StableHlo.TRef sig ⟨S128, .i32⟩) signi
  :: StableHlo.TRef.unary (.of main_call0_call0_v0 : StableHlo.TRef sig ⟨S_, .i32⟩) (.of main_call0_call0_v4 : StableHlo.TRef sig ⟨S_, .i32⟩) signi
  :: StableHlo.TRef.unary (.of main_call0_call0_v4 : StableHlo.TRef sig ⟨S_, .i32⟩) (.of main_call0_call0_v5 : StableHlo.TRef sig ⟨S128, .i32⟩) (broadcastInDim S128 ![] bcast_S_S128)
  :: StableHlo.TRef.binary (.of main_call0_call0_v3 : StableHlo.TRef sig ⟨S128, .i32⟩) (.of main_call0_call0_v5 : StableHlo.TRef sig ⟨S128, .i32⟩) (.of main_call0_call0_v6 : StableHlo.TRef sig ⟨S128, .i1⟩) (cmpi .ne)
  :: StableHlo.TRef.unary (.of main_call0_call0_v0 : StableHlo.TRef sig ⟨S_, .i32⟩) (.of main_call0_call0_v7 : StableHlo.TRef sig ⟨S128, .i32⟩) (broadcastInDim S128 ![] bcast_S_S128)
  :: StableHlo.TRef.binary (.of main_call0_v4 : StableHlo.TRef sig ⟨S128, .i32⟩) (.of main_call0_call0_v7 : StableHlo.TRef sig ⟨S128, .i32⟩) (.of main_call0_call0_v8 : StableHlo.TRef sig ⟨S128, .i32⟩) Host.remsi
  :: StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v9 : StableHlo.TRef sig ⟨S128, .i32⟩) (broadcastInDim S128 ![] bcast_S_S128)
  :: StableHlo.TRef.binary (.of main_call0_call0_v8 : StableHlo.TRef sig ⟨S128, .i32⟩) (.of main_call0_call0_v9 : StableHlo.TRef sig ⟨S128, .i32⟩) (.of main_call0_call0_v10 : StableHlo.TRef sig ⟨S128, .i1⟩) (cmpi .ne)
  :: StableHlo.TRef.binary (.of main_call0_call0_v6 : StableHlo.TRef sig ⟨S128, .i1⟩) (.of main_call0_call0_v10 : StableHlo.TRef sig ⟨S128, .i1⟩) (.of main_call0_call0_v11 : StableHlo.TRef sig ⟨S128, .i1⟩) andi
  :: StableHlo.TRef.nullary (.of main_call0_call0_c_0 : StableHlo.TRef sig ⟨S_, .i32⟩) (constantI S_ 32 1#32)
  :: StableHlo.TRef.unary (.of main_call0_call0_c_0 : StableHlo.TRef sig ⟨S_, .i32⟩) (.of main_call0_call0_v12 : StableHlo.TRef sig ⟨S128, .i32⟩) (broadcastInDim S128 ![] bcast_S_S128)
  :: StableHlo.TRef.binary (.of main_call0_call0_v2 : StableHlo.TRef sig ⟨S128, .i32⟩) (.of main_call0_call0_v12 : StableHlo.TRef sig ⟨S128, .i32⟩) (.of main_call0_call0_v13 : StableHlo.TRef sig ⟨S128, .i32⟩) subi
  :: StableHlo.TRef.ternary (.of main_call0_call0_v11 : StableHlo.TRef sig ⟨S128, .i1⟩) (.of main_call0_call0_v13 : StableHlo.TRef sig ⟨S128, .i32⟩) (.of main_call0_call0_v2 : StableHlo.TRef sig ⟨S128, .i32⟩) (.of main_call0_v5 : StableHlo.TRef sig ⟨S128, .i32⟩) select
  :: StableHlo.TRef.unary main_call0_call0.call0.v0 (.of main_call0_v6 : StableHlo.TRef sig ⟨S128x1, .i32⟩) (broadcastInDim S128x1 ![0] bcast_S128_S128x1_0)
  :: StableHlo.TRef.nullary (.of main_call0_v7 : StableHlo.TRef sig ⟨S2, .i32⟩) (iotaInDim S2 32 0)
  :: StableHlo.TRef.unary (.of main_call0_v7 : StableHlo.TRef sig ⟨S2, .i32⟩) (.of main_call0_v8 : StableHlo.TRef sig ⟨S1x2, .i32⟩) (broadcastInDim S1x2 ![1] bcast_S2_S1x2_1)
  :: StableHlo.TRef.unary (.of main_call0_v6 : StableHlo.TRef sig ⟨S128x1, .i32⟩) (.of main_call0_v9 : StableHlo.TRef sig ⟨S128x2, .i32⟩) (broadcastInDim S128x2 ![0, 1] bcast_S128x1_S128x2_0_1)
  :: StableHlo.TRef.unary (.of main_call0_v8 : StableHlo.TRef sig ⟨S1x2, .i32⟩) (.of main_call0_v10 : StableHlo.TRef sig ⟨S128x2, .i32⟩) (broadcastInDim S128x2 ![0, 1] bcast_S1x2_S128x2_0_1)
  :: StableHlo.TRef.binary (.of main_call0_v9 : StableHlo.TRef sig ⟨S128x2, .i32⟩) (.of main_call0_v10 : StableHlo.TRef sig ⟨S128x2, .i32⟩) (.of main_call0_v11 : StableHlo.TRef sig ⟨S128x2, .i1⟩) (cmpi .eq)
  :: StableHlo.TRef.reshape (.of main_arg4 : StableHlo.TRef sig ⟨S64x2x1, .f32⟩) (.of main_call0_v12 : StableHlo.TRef sig ⟨S64x2, .f32⟩) (rfl : (.f32 : EltTy) = .f32) shapeCasts_S64x2x1_S64x2
  :: StableHlo.TRef.reshape (.of main_call0_v12 : StableHlo.TRef sig ⟨S64x2, .f32⟩) (.of main_call0_v13 : StableHlo.TRef sig ⟨S1x64x1x2, .f32⟩) (rfl : (.f32 : EltTy) = .f32) shapeCasts_S64x2_S1x64x1x2
  :: StableHlo.TRef.unary (.of main_call0_v13 : StableHlo.TRef sig ⟨S1x64x1x2, .f32⟩) (.of main_call0_v14 : StableHlo.TRef sig ⟨S2x64x1x2, .f32⟩) (broadcastInDim S2x64x1x2 ![0, 1, 2, 3] bcast_S1x64x1x2_S2x64x1x2_0_1_2_3)
  :: StableHlo.TRef.reshape (.of main_call0_v14 : StableHlo.TRef sig ⟨S2x64x1x2, .f32⟩) (.of main_call0_v15 : StableHlo.TRef sig ⟨S128x2, .f32⟩) (rfl : (.f32 : EltTy) = .f32) shapeCasts_S2x64x1x2_S128x2
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_call1_v0 : StableHlo.TRef sig ⟨S_, .f32⟩) id
  :: StableHlo.TRef.unary (.of main_call0_call1_v0 : StableHlo.TRef sig ⟨S_, .f32⟩) (.of main_call0_call1_v1 : StableHlo.TRef sig ⟨S128x2, .f32⟩) (broadcastInDim S128x2 ![] bcast_S_S128x2)
  :: StableHlo.TRef.ternary (.of main_call0_v11 : StableHlo.TRef sig ⟨S128x2, .i1⟩) (.of main_call0_v15 : StableHlo.TRef sig ⟨S128x2, .f32⟩) (.of main_call0_call1_v1 : StableHlo.TRef sig ⟨S128x2, .f32⟩) (.of main_call0_v16 : StableHlo.TRef sig ⟨S128x2, .f32⟩) select
  :: StableHlo.TRef.reshape (.of main_arg5 : StableHlo.TRef sig ⟨S64x2x1, .f32⟩) (.of main_call0_v17 : StableHlo.TRef sig ⟨S64x2, .f32⟩) (rfl : (.f32 : EltTy) = .f32) shapeCasts_S64x2x1_S64x2
  :: StableHlo.TRef.reshape (.of main_call0_v17 : StableHlo.TRef sig ⟨S64x2, .f32⟩) (.of main_call0_v18 : StableHlo.TRef sig ⟨S1x64x1x2, .f32⟩) (rfl : (.f32 : EltTy) = .f32) shapeCasts_S64x2_S1x64x1x2
  :: StableHlo.TRef.unary (.of main_call0_v18 : StableHlo.TRef sig ⟨S1x64x1x2, .f32⟩) (.of main_call0_v19 : StableHlo.TRef sig ⟨S2x64x1x2, .f32⟩) (broadcastInDim S2x64x1x2 ![0, 1, 2, 3] bcast_S1x64x1x2_S2x64x1x2_0_1_2_3)
  :: StableHlo.TRef.reshape (.of main_call0_v19 : StableHlo.TRef sig ⟨S2x64x1x2, .f32⟩) (.of main_call0_v20 : StableHlo.TRef sig ⟨S128x2, .f32⟩) (rfl : (.f32 : EltTy) = .f32) shapeCasts_S2x64x1x2_S128x2
  :: StableHlo.TRef.nullary (.of main_call0_cst_1 : StableHlo.TRef sig ⟨S_, .f32⟩) (constant S_ .f32 0x00000000#32)
  :: StableHlo.TRef.unary (.of main_call0_cst_1 : StableHlo.TRef sig ⟨S_, .f32⟩) (.of main_call0_call2_v0 : StableHlo.TRef sig ⟨S_, .f32⟩) id
  :: StableHlo.TRef.unary (.of main_call0_call2_v0 : StableHlo.TRef sig ⟨S_, .f32⟩) (.of main_call0_call2_v1 : StableHlo.TRef sig ⟨S128x2, .f32⟩) (broadcastInDim S128x2 ![] bcast_S_S128x2)
  :: StableHlo.TRef.ternary (.of main_call0_v11 : StableHlo.TRef sig ⟨S128x2, .i1⟩) (.of main_call0_v20 : StableHlo.TRef sig ⟨S128x2, .f32⟩) (.of main_call0_call2_v1 : StableHlo.TRef sig ⟨S128x2, .f32⟩) (.of main_call0_v21 : StableHlo.TRef sig ⟨S128x2, .f32⟩) select
  :: StableHlo.TRef.nullary (.of main_call0_cst_2 : StableHlo.TRef sig ⟨S_, .f32⟩) (constant S_ .f32 0x3E4CCCCD#32)
  :: StableHlo.TRef.unary (.of main_call0_cst_2 : StableHlo.TRef sig ⟨S_, .f32⟩) (.of main_call0_v22 : StableHlo.TRef sig ⟨S128x2, .f32⟩) (broadcastInDim S128x2 ![] bcast_S_S128x2)
  :: StableHlo.TRef.binary (.of main_call0_v22 : StableHlo.TRef sig ⟨S128x2, .f32⟩) main_call0_call1.v2 (.of main_call0_v23 : StableHlo.TRef sig ⟨S128x2, .f32⟩) mulf
  :: StableHlo.TRef.binary main_call0_call1.v2 (.of main_call0_v23 : StableHlo.TRef sig ⟨S128x2, .f32⟩) (.of main_call0_v24 : StableHlo.TRef sig ⟨S128x4, .f32⟩) (fun a b => concatenate S128x4 1 [⟨S128x2, a⟩, ⟨S128x2, b⟩] concatenates_S128x2_S128x2_S128x4_d1)
  :: StableHlo.TRef.nullary (.of main_call0_cst_3 : StableHlo.TRef sig ⟨S_, .f32⟩) (constant S_ .f32 0x3E4CCCCD#32)
  :: StableHlo.TRef.unary (.of main_call0_cst_3 : StableHlo.TRef sig ⟨S_, .f32⟩) (.of main_call0_v25 : StableHlo.TRef sig ⟨S128x2, .f32⟩) (broadcastInDim S128x2 ![] bcast_S_S128x2)
  :: StableHlo.TRef.binary (.of main_call0_v25 : StableHlo.TRef sig ⟨S128x2, .f32⟩) main_call0_call2.v2 (.of main_call0_v26 : StableHlo.TRef sig ⟨S128x2, .f32⟩) mulf
  :: StableHlo.TRef.binary main_call0_call2.v2 (.of main_call0_v26 : StableHlo.TRef sig ⟨S128x2, .f32⟩) (.of main_call0_v27 : StableHlo.TRef sig ⟨S128x4, .f32⟩) (fun a b => concatenate S128x4 1 [⟨S128x2, a⟩, ⟨S128x2, b⟩] concatenates_S128x2_S128x2_S128x4_d1)
  :: StableHlo.TRef.unary main_call0_call2.v2 (.of main_call0_v28 : StableHlo.TRef sig ⟨S2x128, .f32⟩) (transpose S2x128 [1, 0] · transposes_S128x2_S2x128_1_0)
  :: StableHlo.TRef.unary main_call0_call2.v2 (.of main_call0_v29 : StableHlo.TRef sig ⟨S2x128, .f32⟩) (transpose S2x128 [1, 0] · transposes_S128x2_S2x128_1_0)
  :: StableHlo.TRef.nullary (.of main_call0_cst_4 : StableHlo.TRef sig ⟨S_, .f32⟩) (constant S_ .f32 0x3E4CCCCD#32)
  :: StableHlo.TRef.unary (.of main_call0_cst_4 : StableHlo.TRef sig ⟨S_, .f32⟩) (.of main_call0_v30 : StableHlo.TRef sig ⟨S2x128, .f32⟩) (broadcastInDim S2x128 ![] bcast_S_S2x128)
  :: StableHlo.TRef.binary (.of main_call0_v30 : StableHlo.TRef sig ⟨S2x128, .f32⟩) (.of main_call0_v29 : StableHlo.TRef sig ⟨S2x128, .f32⟩) (.of main_call0_v31 : StableHlo.TRef sig ⟨S2x128, .f32⟩) mulf
  :: StableHlo.TRef.binary (.of main_call0_v28 : StableHlo.TRef sig ⟨S2x128, .f32⟩) (.of main_call0_v31 : StableHlo.TRef sig ⟨S2x128, .f32⟩) (.of main_call0_v32 : StableHlo.TRef sig ⟨S4x128, .f32⟩) (fun a b => concatenate S4x128 0 [⟨S2x128, a⟩, ⟨S2x128, b⟩] concatenates_S2x128_S2x128_S4x128_d0)
  :: StableHlo.TRef.unary (.of main_arg6 : StableHlo.TRef sig ⟨S128, .f32⟩) (.of main_call0_v33 : StableHlo.TRef sig ⟨S64, .f32⟩) (extractStridedSlice S64 ![0] · slices_S128_S64_0)
  :: StableHlo.TRef.reshape (.of main_call0_v33 : StableHlo.TRef sig ⟨S64, .f32⟩) (.of main_call0_v34 : StableHlo.TRef sig ⟨S1x64, .f32⟩) (rfl : (.f32 : EltTy) = .f32) shapeCasts_S64_S1x64
  :: StableHlo.TRef.unary (.of main_arg6 : StableHlo.TRef sig ⟨S128, .f32⟩) (.of main_call0_v35 : StableHlo.TRef sig ⟨S64, .f32⟩) (extractStridedSlice S64 ![64] · slices_S128_S64_64)
  :: StableHlo.TRef.reshape (.of main_call0_v35 : StableHlo.TRef sig ⟨S64, .f32⟩) (.of main_call0_v36 : StableHlo.TRef sig ⟨S1x64, .f32⟩) (rfl : (.f32 : EltTy) = .f32) shapeCasts_S64_S1x64
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.reshape_bufs_sub .., StableHlo.reshape_bufs_sub .., StableHlo.reshape_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.nullary_bufs_sub .., StableHlo.unary_bufs_sub .., StableHlo.unary_bufs_sub .., StableHlo.ternary_bufs_sub .., StableHlo.reshape_bufs_sub .., StableHlo.reshape_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub ..⟩
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) main_call0 = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) (.of main_arg7) (.of main_arg8) (.of main_arg9) (.of main_arg10) (.of main_arg11) (.of main_arg12) (.of main_arg13) main_call0 ] : Prog (TpuEff nD τ sig (Elt F) (Pipeline.Sig Λ₀ (Fin 1) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [main_chain_calls, main_chain_main_call0]
  simp only [Pipeline.chain, Pipeline.chainK, bind_assoc, pure_bind, bind_pure_unit]

end Cert.KernelIdeal.Gen

end
-- ==== Proof.Progs.lean ====
module

public import proofs.«01_k».proof.Proof.Launch
public import proofs.«01_k».proof.Proof.Gen.KernelIdeal.Skeleton

public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three parts as programs of their own

The body first reads its four words of the schedule, then runs up to three parts under conditions: at the first point the part that
fills the scratch read at every later point, at a point of the first kind one block of 512 rows of the new state, at a point of the
second kind one tile of the product. -/

/-- Part of the first point: the scratch arrays 20 to 24 are filled. -/
def initP (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) : Prog (TpuEff nD τ sig (Elt F) Λ₀ .tc) PUnit := do
  let ⟨v21, v24, v52⟩ : Σ' (v21 : FVec F S4096x128 .f32) (v24 : FVec F S4096x4 .f32), FVec F S4096x65 .bf16 ← k0_part1_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26
  Prog.lift (.store arg21 (Rect.unit (s := S4096x65) ![0, 0] S4096x65.size inb_S4096x65_S4096x65_0_0) v52 Finset.univ (View.stores_vmem h_S4096x65 (harg21.storeExact_slice rfl _ packedbf16_S4096x65_S4096x65_0_0) (fun _ => rfl)) (.inl rfl))
  let v53 : Vec F S128x4 .f32 ← Prog.lift (.load arg5 (Rect.unit (s := S128x4) ![0, 0] S128x4.size inb_S128x4_S128x4_0_0).toLoadRect (View.loadsAt_vmem h_S128x4))
  let v62 : Vec F S4096x2 .f32 ← Prog.lift (.load arg24 (Rect.unit (s := S4096x2) ![0, 0] S4096x2.size inb_S4096x2_S4096x2_0_0).toLoadRect (View.loadsAt_vmem h_S4096x2))
  Prog.lift (.store arg24 (Rect.unit (s := S4096x2) ![0, 0] S4096x2.size inb_S4096x2_S4096x2_0_0) (k0_pay1 v21 v24 v53) Finset.univ (View.stores_vmem_bits_univ h_S4096x2 rfl) (.inl rfl))
  pure ⟨⟩

/-- Part of a point that computes a block of rows. -/
def gatP (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 : BitVec 32) (k0_hw1 : k0_chk1 v1 v3) (k0_h2 : k0_cond2 v1 = 1#1) : Prog (TpuEff nD τ sig (Elt F) Λ₀ .tc) PUnit := do
  let ⟨v19, v37, v55, v56⟩ : Σ' (v19 : FVec F S512x4096 .bf16) (v37 : FVec F S512x2 .f32) (v55 : FVec F S512x65 .f32), FVec F S512x1 .f32 ← k0_part2_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 k0_hw1 k0_h2
  let ⟨v71, v98, v99⟩ : Σ' (v71 : FVec F S512x64 .f32) (v98 : FVec F S512x64 .f32), FVec F S512x1 .f32 ← k0_part3_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 k0_hw1 k0_h2 v19 v37 v55 v56
  let ⟨v105, v107, v110, v122, v135, v136, v137⟩ : Σ' (v105 : FVec F S512x64 .f32) (v107 : FVec F S512x64 .f32) (v110 : Vec F S192x64 .f32) (v122 : FVec F S512x64 .f32) (v135 : Vec F S512x1 .f32) (v136 : FVec F S512x64 .f32), FVec F S64x64 .f32 ← k0_part4_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v71 v98 v99
  let v153 : Vec F S512x64 .f32 ← Prog.lift (.load arg19 (Rect.unit (s := S512x64) ![0, 0] S512x64.size inb_S512x64_S512x64_0_0).toLoadRect (View.loadsAt_vmem h_S512x64))
  Prog.lift (.store arg19 (Rect.unit (s := S512x64) ![0, 0] S512x64.size inb_S512x64_S512x64_0_0) (k0_pay2 v71 v105 v107 v110 v122 v135 v136 v137) Finset.univ (View.stores_vmem_bits_univ h_S512x64 rfl) (.inl rfl))
  let v156 : Vec F S512x64 .f32 ← Prog.lift (.load arg25 (Rect.unit (s := S4096x64) (k0_off12 v3) S512x64.size (k0_off12_inb v1 v3 k0_hw1 k0_h2)).toLoadRect (View.loadsAt_vmem h_S512x64))
  Prog.lift (.store arg25 (Rect.unit (s := S4096x64) (k0_off12 v3) S512x64.size (k0_off12_inb v1 v3 k0_hw1 k0_h2)) (k0_pay3 v71 v105 v107 v110 v122 v135 v136 v137) Finset.univ (View.stores_vmem_bits_univ h_S512x64 rfl) (.inl rfl))
  let v159 : Vec F S64x64 .f32 ← Prog.lift (.load arg17 (Rect.unit (s := S64x64) ![0, 0] S64x64.size inb_S64x64_S64x64_0_0).toLoadRect (View.loadsAt_vmem h_S64x64))
  let v163 : Vec F S512x64 .f32 ← Prog.lift (.load arg26 (Rect.unit (s := S4096x64) (k0_off12 v3) S512x64.size (k0_off12_inb v1 v3 k0_hw1 k0_h2)).toLoadRect (View.loadsAt_vmem h_S512x64))
  Prog.lift (.store arg26 (Rect.unit (s := S4096x64) (k0_off12 v3) S512x64.size (k0_off12_inb v1 v3 k0_hw1 k0_h2)) (k0_pay4 v71 v105 v107 v110 v122 v135 v136 v137 v159) Finset.univ (View.stores_vmem_bits_univ h_S512x64 rfl) (.inl rfl))
  pure ⟨⟩

/-- Part of a point that computes a tile of the product. -/
def tileP (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v5 v7 : BitVec 32) (k0_hw2 : k0_chk2 v1 v5) (k0_hw3 : k0_chk3 v1 v7) (k0_h3 : k0_cond3 v1 = 1#1) : Prog (TpuEff nD τ sig (Elt F) Λ₀ .tc) PUnit := do
  let v19 : Vec F S512x64 .f32 ← Prog.lift (.load arg26 (Rect.unit (s := S4096x64) (k0_off13 v5) S512x64.size (k0_off13_inb v1 v5 k0_hw2 k0_h3)).toLoadRect (View.loadsAt_vmem h_S512x64))
  let v22 : Vec F S512x64 .f32 ← Prog.lift (.load arg25 (Rect.unit (s := S4096x64) (k0_off14 v7) S512x64.size (k0_off14_inb v1 v7 k0_hw3 k0_h3)).toLoadRect (View.loadsAt_vmem h_S512x64))
  let v24 : Vec F S512x512 .f32 ← Prog.lift (.load arg18 (Rect.unit (s := S512x512) ![0, 0] S512x512.size inb_S512x512_S512x512_0_0).toLoadRect (View.loadsAt_vmem h_S512x512))
  Prog.lift (.store arg18 (Rect.unit (s := S512x512) ![0, 0] S512x512.size inb_S512x512_S512x512_0_0) (k0_pay5 v19 v22) Finset.univ (View.stores_vmem_bits_univ h_S512x512 rfl) (.inl rfl))
  pure ⟨⟩

set_option maxHeartbeats 4000000 in
/-- What the body does once it has its words. -/
def restP (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 v5 v7 : BitVec 32) (hw1 : k0_chk1 v1 v3) (hw2 : k0_chk2 v1 v5) (hw3 : k0_chk3 v1 v7) : Prog (TpuEff nD τ sig (Elt F) Λ₀ .tc) PUnit :=
  (if (Scalar.cmpi .ne (Scalar.extui (Scalar.cmpi .eq (BitVec.ofNat 32 (i 0).val) 0#32) : BitVec 32) 0#32 : BitVec 1) = 1#1 then initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 else pure ⟨⟩) >>= fun _ =>
  (if h2 : k0_cond2 v1 = 1#1 then gatP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 hw1 h2 else pure ⟨⟩) >>= fun _ =>
  (if h3 : k0_cond3 v1 = 1#1 then tileP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v5 v7 hw2 hw3 h3 else pure ⟨⟩)

set_option maxHeartbeats 4000000 in
set_option maxRecDepth 65536 in
/-- The printed body reads its words, then does that. -/
theorem body_eq (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 = (do
    let v1 : Elt F .i32 ← smemLoad arg1 (Rect.unit (s := S4x72) (k0_off4 i) S1x1.size (k0_off4_inb i)) numel1_S1x1 rfl
    let v3 : Elt F .i32 ← smemLoad arg1 (Rect.unit (s := S4x72) (k0_off1 i) S1x1.size (k0_off1_inb i)) numel1_S1x1 rfl
    have k0_hw1 : k0_chk1 v1 v3 := (← Prog.lift (TpuEff.assume (k0_chk1 v1 v3) (k0_chk1.dec v1 v3))).down
    let v5 : Elt F .i32 ← smemLoad arg1 (Rect.unit (s := S4x72) (k0_off2 i) S1x1.size (k0_off2_inb i)) numel1_S1x1 rfl
    have k0_hw2 : k0_chk2 v1 v5 := (← Prog.lift (TpuEff.assume (k0_chk2 v1 v5) (k0_chk2.dec v1 v5))).down
    let v7 : Elt F .i32 ← smemLoad arg1 (Rect.unit (s := S4x72) (k0_off3 i) S1x1.size (k0_off3_inb i)) numel1_S1x1 rfl
    have k0_hw3 : k0_chk3 v1 v7 := (← Prog.lift (TpuEff.assume (k0_chk3 v1 v7) (k0_chk3.dec v1 v7))).down
    restP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v5 v7 k0_hw1 k0_hw2 k0_hw3) := by
  rw [cc0__body_eq_skeleton]
  unfold cc0__body_skel restP initP gatP tileP
  simp only [k0_part1_eq_skeleton, k0_part2_eq_skeleton, k0_part3_eq_skeleton, k0_part4_eq_skeleton]
  refine congrArg (bind _) (funext fun v1 => congrArg (bind _) (funext fun v3 => congrArg (bind _) (funext fun h1 => congrArg (bind _) (funext fun v5 =>
    congrArg (bind _) (funext fun h2 => congrArg (bind _) (funext fun v7 => congrArg (bind _) (funext fun h3 => ?_)))))))
  split_ifs <;> simp only [bind_assoc, pure_bind]

open VecWindow (window put)

/-- The first head's convolution on the block's rows. -/
def gat0 (v1 v3 : BitVec 32) (k0_hw1 : k0_chk1 v1 v3) (k0_h2 : k0_cond2 v1 = 1#1) (x7 : Vec F S512x4096 .f32) (x12 : Vec F S1x64 .f32) (x20 : Vec F S4096x65 .bf16) (x22 : Vec F S4096x4 .bf16) (x23 : Vec F S16x4096 .bf16) (x24 : Vec F S4096x2 .f32) : FVec F S512x64 .f32 :=
  k0_pay17 (k0_pay15 x7 (window x22 (k0_off7 v3) S512x1.size (k0_off7_inb v1 v3 k0_hw1 k0_h2)) (window x22 (k0_off8 v3) S512x1.size (k0_off8_inb v1 v3 k0_hw1 k0_h2)) (window x23 (![0, 0]) S1x4096.size (inb_S16x4096_S1x4096_0_0)) (window x23 (![2, 0]) S1x4096.size (inb_S16x4096_S1x4096_2_0)) x20)
    (k0_pay16 (window x7 (k0_off5 v3) S512x512.size (k0_off5_inb v1 v3 k0_hw1 k0_h2)) (window x24 (k0_off6 v3) S512x2.size (k0_off6_inb v1 v3 k0_hw1 k0_h2))) (window x20 (k0_off9 v3) S512x65.size (k0_off9_inb v1 v3 k0_hw1 k0_h2)) x12

/-- The second head's numerator with its denominator beside it. -/
def gat1 (v1 v3 : BitVec 32) (k0_hw1 : k0_chk1 v1 v3) (k0_h2 : k0_cond2 v1 = 1#1) (x7 : Vec F S512x4096 .f32) (x21 : Vec F S4096x65 .bf16) (x22 : Vec F S4096x4 .bf16) (x23 : Vec F S16x4096 .bf16) (x24 : Vec F S4096x2 .f32) : (FVec F S512x64 .f32) × (FVec F S512x1 .f32) :=
  (k0_pay19 (k0_pay13 x7) (k0_pay14 (window x7 (k0_off5 v3) S512x512.size (k0_off5_inb v1 v3 k0_hw1 k0_h2)) (window x24 (k0_off6 v3) S512x2.size (k0_off6_inb v1 v3 k0_hw1 k0_h2))) (window x22 (k0_off10 v3) S512x1.size (k0_off10_inb v1 v3 k0_hw1 k0_h2)) (window x22 (k0_off11 v3) S512x1.size (k0_off11_inb v1 v3 k0_hw1 k0_h2)) (window x23 (![1, 0]) S1x4096.size (inb_S16x4096_S1x4096_1_0)) (window x23 (![3, 0]) S1x4096.size (inb_S16x4096_S1x4096_3_0)) x21 (window x21 (k0_off9 v3) S512x65.size (k0_off9_inb v1 v3 k0_hw1 k0_h2)),
   k0_pay20 (k0_pay13 x7) (k0_pay14 (window x7 (k0_off5 v3) S512x512.size (k0_off5_inb v1 v3 k0_hw1 k0_h2)) (window x24 (k0_off6 v3) S512x2.size (k0_off6_inb v1 v3 k0_hw1 k0_h2))) (window x22 (k0_off10 v3) S512x1.size (k0_off10_inb v1 v3 k0_hw1 k0_h2)) (window x22 (k0_off11 v3) S512x1.size (k0_off11_inb v1 v3 k0_hw1 k0_h2)) (window x23 (![1, 0]) S1x4096.size (inb_S16x4096_S1x4096_1_0)) (window x23 (![3, 0]) S1x4096.size (inb_S16x4096_S1x4096_3_0)) x21 (window x21 (k0_off9 v3) S512x65.size (k0_off9_inb v1 v3 k0_hw1 k0_h2)))

/-- The new state on rows whose two convolutions are `v71` and `n.1 / n.2 + x13`. -/
def gru (v71 : FVec F S512x64 .f32) (n : (FVec F S512x64 .f32) × (FVec F S512x1 .f32)) (x8 : Vec F S512x64 .f32) (x9 : Vec F S512x1 .f32) (x10 : Vec F S512x1 .f32) (x11 : Vec F S512x1 .f32) (x13 : Vec F S1x64 .f32) (x14 : Vec F S192x64 .f32) (x15 : Vec F S192x64 .f32) (x16 : Vec F S192x64 .f32) : FVec F S512x64 .f32 :=
  k0_pay2 v71 (k0_pay21 n.1 n.2 x13) (k0_pay22 x8) x16 (k0_pay23 v71 n.1 n.2 x13 x8 x14 x9) x11 (k0_pay24 v71 n.1 n.2 x13 x8 x15 x10) (k0_pay25 x16)

/-- The block of the new state. -/
def gatH (v1 v3 : BitVec 32) (k0_hw1 : k0_chk1 v1 v3) (k0_h2 : k0_cond2 v1 = 1#1) (x7 : Vec F S512x4096 .f32) (x8 : Vec F S512x64 .f32) (x9 : Vec F S512x1 .f32) (x10 : Vec F S512x1 .f32) (x11 : Vec F S512x1 .f32) (x12 : Vec F S1x64 .f32) (x13 : Vec F S1x64 .f32) (x14 : Vec F S192x64 .f32) (x15 : Vec F S192x64 .f32) (x16 : Vec F S192x64 .f32) (x20 : Vec F S4096x65 .bf16) (x21 : Vec F S4096x65 .bf16) (x22 : Vec F S4096x4 .bf16) (x23 : Vec F S16x4096 .bf16) (x24 : Vec F S4096x2 .f32) : FVec F S512x64 .f32 :=
  gru (gat0 v1 v3 k0_hw1 k0_h2 x7 x12 x20 x22 x23 x24) (gat1 v1 v3 k0_hw1 k0_h2 x7 x21 x22 x23 x24) x8 x9 x10 x11 x13 x14 x15 x16

/-- A block of the new state times the bilinear form's matrix. -/
def timesR (h : FVec F S512x64 .f32) (x17 : Vec F S64x64 .f32) : FVec F S512x64 .f32 :=
  shapeCast S512x64 (matmul dot_S512x64_S64x64_S512x64_1_0_0_1_n_n none h x17 (constant S512x64 .f32 0x00000000#32)) shapeCasts_S512x64_S512x64

end Cert.KernelIdeal.Gen
end
-- ==== Proof.Triples.lean ====
module

public import proofs.«01_k».proof.Proof.Launch
public import proofs.«01_k».proof.Proof.Gen.KernelIdeal.Skeleton
public import proofs.«01_k».proof.Proof.Progs
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- A load of a whole memref at its own sizes reads its contents. -/
theorem ld_whole {sig : RefSig} {κ : Kind} {sp : Space} {s : Shape} {e : EltTy} {Val : EltTy → Type} {m : Memref sig κ sp s e} (h : m.IsWhole)
    (X : s.Idx → Val e) {off : Fin s.rank → ℕ} (inb : ∀ a, off a + s.size a ≤ s.size a) :
    m.view.readAt Val (Rect.unit off s.size inb).toLoadRect (h.unread X) = X := by
  rw [View.readAt_full]; exact h.read_unread X

/-- A load of a rectangle of a whole memref reads that window of its contents. -/
theorem ld_part {sig : RefSig} {κ : Kind} {sp : Space} {s : Shape} {e : EltTy} {Val : EltTy → Type} {m : Memref sig κ sp s e} (h : m.IsWhole)
    (X : s.Idx → Val e) {off size : Fin s.rank → ℕ} (inb : ∀ a, off a + size a ≤ s.size a) :
    m.view.readAt Val (Rect.unit off size inb).toLoadRect (h.unread X) = window X off size inb := by
  rw [View.readAt_unit _ _ _ rfl inb, h.read_unread]

/-- A store of a rectangle of a whole memref puts the payload there. -/
theorem st_part {sig : RefSig} {κ : Kind} {sp : Space} {s : Shape} {e : EltTy} {Val : EltTy → Type} {m : Memref sig κ sp s e} (h : m.IsWhole)
    (X : s.Idx → Val e) {off size : Fin s.rank → ℕ} (inb : ∀ a, off a + size a ≤ s.size a) (w : (Rect.unit off size inb).shape.Idx → Val e) :
    m.view.read Val (m.view.writes Val (h.unread X) [⟨Rect.unit off size inb, w⟩]) = put X off size w := by
  rw [View.read_writes_cons_put _ _ _ _ _ rfl]; exact congrArg (fun x => put x off size w) (h.read_unread X)

set_option maxHeartbeats 4000000 in
theorem initP_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole)
    (x2 : Vec F S4096x128 .f32) (x3 : Vec F S128x128 .f32) (x4 : Vec F S128x4 .f32) (x5 : Vec F S128x4 .f32) (x6 : Vec F S4x128 .f32) (x20 : Vec F S4096x65 .bf16) (x21 : Vec F S4096x65 .bf16) (x22 : Vec F S4096x4 .bf16) (x23 : Vec F S16x4096 .bf16) (x24 : Vec F S4096x2 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg20 fullShare (k0_pay11 x2 x3) ∗ owns (c : Thread nD τ) arg21 fullShare (k0_pay12 x2 x3) ∗ owns (c : Thread nD τ) arg22 fullShare (k0_pay8 x2 x3 x4) ∗ owns (c : Thread nD τ) arg23 fullShare (k0_pay9 x2 x3 x6) ∗ owns (c : Thread nD τ) arg24 fullShare (k0_pay1 (k0_pay6 x2 x3) (k0_pay7 x2 x3 x4) x5)) -∗ K ⟨⟩))
      ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 ) K := by
  unfold initP owns
  unfold k0_part1_skel
  iintro ⟨⟨%f2, %hf2, H2⟩, ⟨%f3, %hf3, H3⟩, ⟨%f4, %hf4, H4⟩, ⟨%f5, %hf5, H5⟩, ⟨%f6, %hf6, H6⟩, ⟨%f20, %hf20, H20⟩, ⟨%f21, %hf21, H21⟩, ⟨%f22, %hf22, H22⟩, ⟨%f23, %hf23, H23⟩, ⟨%f24, %hf24, H24⟩, Hk⟩
  obtain rfl := harg2.eq_unread hf2; obtain rfl := harg3.eq_unread hf3; obtain rfl := harg4.eq_unread hf4; obtain rfl := harg5.eq_unread hf5; obtain rfl := harg6.eq_unread hf6; obtain rfl := harg20.eq_unread hf20; obtain rfl := harg21.eq_unread hf21; obtain rfl := harg22.eq_unread hf22; obtain rfl := harg23.eq_unread hf23; obtain rfl := harg24.eq_unread hf24
  sl_exec
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H20]
  · iexists _; isplitr; swap; · iexact H20
    ipureintro; rw [View.read_writes_full]; rw [ld_whole harg2 x2, ld_whole harg3 x3]
  isplitl [H21]
  · iexists _; isplitr; swap; · iexact H21
    ipureintro; rw [View.read_writes_full]; rw [ld_whole harg2 x2, ld_whole harg3 x3]
  isplitl [H22]
  · iexists _; isplitr; swap; · iexact H22
    ipureintro; rw [View.read_writes_full]; rw [ld_whole harg2 x2, ld_whole harg3 x3, ld_whole harg4 x4]
  isplitl [H23]
  · iexists _; isplitr; swap; · iexact H23
    ipureintro; rw [View.read_writes_full]; rw [ld_whole harg2 x2, ld_whole harg3 x3, ld_whole harg6 x6]
  iexists _; isplitr; swap; · iexact H24
  ipureintro; rw [View.read_writes_full]; rw [ld_whole harg2 x2, ld_whole harg3 x3, ld_whole harg4 x4, ld_whole harg5 x5]

set_option maxHeartbeats 4000000 in
theorem tileP_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v5 v7 : BitVec 32) (k0_hw2 : k0_chk2 v1 v5) (k0_hw3 : k0_chk3 v1 v7) (k0_h3 : k0_cond3 v1 = 1#1)
    (x18 : Vec F S512x512 .f32) (x25 : Vec F S4096x64 .f32) (x26 : Vec F S4096x64 .f32) (E : Set ℕ) (K : PUnit → sProp 𝕄) :
    iprop(owns (c : Thread nD τ) arg18 fullShare x18 ∗ owns (c : Thread nD τ) arg25 fullShare x25 ∗ owns (c : Thread nD τ) arg26 fullShare x26 ∗ (iprop(owns (c : Thread nD τ) arg18 fullShare (k0_pay5 (window x26 (k0_off13 v5) S512x64.size (k0_off13_inb v1 v5 k0_hw2 k0_h3)) (window x25 (k0_off14 v7) S512x64.size (k0_off14_inb v1 v7 k0_hw3 k0_h3))) ∗ owns (c : Thread nD τ) arg25 fullShare x25 ∗ owns (c : Thread nD τ) arg26 fullShare x26) -∗ K ⟨⟩))
      ⊢ wp frame (wpE (defs₀ (F := F)) Variants.none c none) E (tileP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v5 v7 k0_hw2 k0_hw3 k0_h3) K := by
  unfold tileP owns

  iintro ⟨⟨%f18, %hf18, H18⟩, ⟨%f25, %hf25, H25⟩, ⟨%f26, %hf26, H26⟩, Hk⟩
  obtain rfl := harg18.eq_unread hf18; obtain rfl := harg25.eq_unread hf25; obtain rfl := harg26.eq_unread hf26
  sl_exec
  sl_step
  iapply Hk
  isplitl [H18]
  · iexists _; isplitr; swap; · iexact H18
    ipureintro; rw [View.read_writes_full]; simp only [ld_part]
  isplitl [H25]
  · iexists _; isplitr; swap; · iexact H25
    ipureintro; exact harg25.read_unread _
  iexists _; isplitr; swap; · iexact H26
  ipureintro; exact harg26.read_unread _

end Cert.KernelIdeal.Gen
end
-- ==== Proof.TripleGat.lean ====
module

public import proofs.«01_k».proof.Proof.Launch
public import proofs.«01_k».proof.Proof.Gen.KernelIdeal.Skeleton
public import proofs.«01_k».proof.Proof.Triples
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 4000000 in
theorem gatP_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 : BitVec 32) (k0_hw1 : k0_chk1 v1 v3) (k0_h2 : k0_cond2 v1 = 1#1)
    (x7 : Vec F S512x4096 .f32) (x8 : Vec F S512x64 .f32) (x9 : Vec F S512x1 .f32) (x10 : Vec F S512x1 .f32) (x11 : Vec F S512x1 .f32) (x12 : Vec F S1x64 .f32) (x13 : Vec F S1x64 .f32) (x14 : Vec F S192x64 .f32) (x15 : Vec F S192x64 .f32) (x16 : Vec F S192x64 .f32) (x17 : Vec F S64x64 .f32) (x19 : Vec F S512x64 .f32) (x20 : Vec F S4096x65 .bf16) (x21 : Vec F S4096x65 .bf16) (x22 : Vec F S4096x4 .bf16) (x23 : Vec F S16x4096 .bf16) (x24 : Vec F S4096x2 .f32) (x25 : Vec F S4096x64 .f32) (x26 : Vec F S4096x64 .f32) (E : Set ℕ) (K : PUnit → sProp 𝕄) :
    iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (iprop(owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare (gatH v1 v3 k0_hw1 k0_h2 x7 x8 x9 x10 x11 x12 x13 x14 x15 x16 x20 x21 x22 x23 x24) ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare (put x25 (k0_off12 v3) S512x64.size (shapeCast S512x64 (gatH v1 v3 k0_hw1 k0_h2 x7 x8 x9 x10 x11 x12 x13 x14 x15 x16 x20 x21 x22 x23 x24) shapeCasts_S512x64_S512x64)) ∗ owns (c : Thread nD τ) arg26 fullShare (put x26 (k0_off12 v3) S512x64.size (timesR (gatH v1 v3 k0_hw1 k0_h2 x7 x8 x9 x10 x11 x12 x13 x14 x15 x16 x20 x21 x22 x23 x24) x17))) -∗ K ⟨⟩))
      ⊢ wp frame (wpE (defs₀ (F := F)) Variants.none c none) E (gatP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 k0_hw1 k0_h2) K := by
  unfold gatP owns
  unfold k0_part2_skel k0_part3_skel k0_part4_skel
  iintro ⟨⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  sl_exec
  sl_step
  iapply Hk
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact harg17.read_unread _
  isplitl [H19]
  · iexists _; isplitr; swap; · iexact H19
    ipureintro; rw [View.read_writes_full]; rw [ld_whole harg7 x7, ld_whole harg8 x8, ld_whole harg9 x9, ld_whole harg10 x10, ld_whole harg11 x11, ld_whole harg12 x12, ld_whole harg13 x13, ld_whole harg14 x14, ld_whole harg15 x15, ld_whole harg16 x16, ld_whole harg20 x20, ld_whole harg21 x21]; simp only [ld_part]; rfl
  isplitl [H20]
  · iexists _; isplitr; swap; · iexact H20
    ipureintro; exact harg20.read_unread _
  isplitl [H21]
  · iexists _; isplitr; swap; · iexact H21
    ipureintro; exact harg21.read_unread _
  isplitl [H22]
  · iexists _; isplitr; swap; · iexact H22
    ipureintro; exact harg22.read_unread _
  isplitl [H23]
  · iexists _; isplitr; swap; · iexact H23
    ipureintro; exact harg23.read_unread _
  isplitl [H24]
  · iexists _; isplitr; swap; · iexact H24
    ipureintro; exact harg24.read_unread _
  isplitl [H25]
  · iexists _; isplitr; swap; · iexact H25
    ipureintro; rw [st_part]; rw [ld_whole harg7 x7, ld_whole harg8 x8, ld_whole harg9 x9, ld_whole harg10 x10, ld_whole harg11 x11, ld_whole harg12 x12, ld_whole harg13 x13, ld_whole harg14 x14, ld_whole harg15 x15, ld_whole harg16 x16, ld_whole harg20 x20, ld_whole harg21 x21]; simp only [ld_part]; rfl
  iexists _; isplitr; swap; · iexact H26
  ipureintro; rw [st_part]; rw [ld_whole harg7 x7, ld_whole harg8 x8, ld_whole harg9 x9, ld_whole harg10 x10, ld_whole harg11 x11, ld_whole harg12 x12, ld_whole harg13 x13, ld_whole harg14 x14, ld_whole harg15 x15, ld_whole harg16 x16, ld_whole harg20 x20, ld_whole harg21 x21, ld_whole harg17 x17]; simp only [ld_part]; rfl

end Cert.KernelIdeal.Gen
end
-- ==== Proof.Body.lean ====
module

public import proofs.«01_k».proof.Proof.Launch
public import proofs.«01_k».proof.Proof.Gen.KernelIdeal.Skeleton
public import proofs.«01_k».proof.Proof.TripleGat
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem word_spec {α : Type} (c : Dev nD) (arg1 : Memref sig .tc .smem S4x72 .i32) (r : Rect S4x72) (h1 : r.shape.numel = 1) (hp : EltTy.packing .i32 = 1)
    (tb : S4x72.Idx → BitVec 32) (q : PosShare TreeShare) (k : Elt F .i32 → Prog (TpuEff nD τ sig (Elt F) Λ₀ .tc) α) (E : Set ℕ) (K : α → sProp 𝕄) :
    iprop(owns (c : Thread nD τ) arg1 q (tb : Vec F S4x72 .i32) ∗ (owns (c : Thread nD τ) arg1 q (tb : Vec F S4x72 .i32) -∗
        wp frame (wpE (defs₀ (F := F)) Variants.none c none) E (k (tb (r.emb (Shape.Idx.first (h1.symm ▸ Nat.one_pos))))) K))
      ⊢ wp frame (wpE (defs₀ (F := F)) Variants.none c none) E (smemLoad arg1 r h1 hp >>= k) K := by
  unfold owns
  iintro ⟨⟨%f1, %hf1, H1⟩, Hk⟩
  rw [show (smemLoad arg1 r h1 hp >>= k : Prog (TpuEff nD τ sig (Elt F) Λ₀ .tc) α)
    = smemLoadElt arg1 r (View.loads_smem_one hp h1) (Shape.Idx.first (h1.symm ▸ Nat.one_pos)) k from rfl]
  have hw := wp_smemLoadElt (defs := defs₀ (F := F)) (Ix := Unit) (Name := ℕ) (U := UR sig nD τ) (Lvl := ℕ) Variants.none (c : Thread nD τ) none (Γ := .nil) E (Q := K) (m := (arg1 : Memref sig (c : Thread nD τ).2.kind .smem S4x72 .i32)) (r := r) (hw := View.loads_smem_one hp h1)
    (x := Shape.Idx.first (h1.symm ▸ Nat.one_pos)) (k := k) (q := q) (f := f1) (S := arg1.view.set) (View.set_slice_subset _ _)
  rw [show (arg1.access r).read (Elt F) f1 (Shape.Idx.first (h1.symm ▸ Nat.one_pos)) = tb (r.emb (Shape.Idx.first (h1.symm ▸ Nat.one_pos))) from congrFun hf1 _] at hw
  iapply hw $$ H1
  iintro H1
  iapply Hk
  iexists _; isplitr; swap; · iexact H1
  ipureintro; exact hf1

theorem assume_spec {α : Type} (c : Dev nD) {P : Prop} {d : Decidable P} (k : PLift P → Prog (TpuEff nD τ sig (Elt F) Λ₀ .tc) α) (E : Set ℕ) (K : α → sProp 𝕄) (h : P) :
    (wp frame (wpE (defs₀ (F := F)) Variants.none c none) E (k ⟨h⟩) K : sProp 𝕄)
      ⊢ wp frame (wpE (defs₀ (F := F)) Variants.none c none) E (Prog.lift (TpuEff.assume P d) >>= k) K :=
  wp_assume (defs := defs₀ (F := F)) Variants.none (c : Thread nD τ) none E h

/-- At the first point the body is the set-up and then a block of rows. -/
theorem restP_first (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 v5 v7 : BitVec 32) (k0_hw1 : k0_chk1 v1 v3) (k0_hw2 : k0_chk2 v1 v5) (k0_hw3 : k0_chk3 v1 v7) (hc : (Scalar.cmpi .ne (Scalar.extui (Scalar.cmpi .eq (BitVec.ofNat 32 (i 0).val) 0#32) : BitVec 32) 0#32 : BitVec 1) = 1#1) (h2 : k0_cond2 v1 = 1#1) (h3 : ¬ k0_cond3 v1 = 1#1) :
    restP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v5 v7 k0_hw1 k0_hw2 k0_hw3 = initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 >>= fun _ => gatP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 k0_hw1 h2 := by
  unfold restP; rw [if_pos hc, dif_pos h2, dif_neg h3]; simp only [bind_pure_unit]

/-- At a block's first point the body is that block of rows. -/
theorem restP_block (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 v5 v7 : BitVec 32) (k0_hw1 : k0_chk1 v1 v3) (k0_hw2 : k0_chk2 v1 v5) (k0_hw3 : k0_chk3 v1 v7) (hc : ¬ (Scalar.cmpi .ne (Scalar.extui (Scalar.cmpi .eq (BitVec.ofNat 32 (i 0).val) 0#32) : BitVec 32) 0#32 : BitVec 1) = 1#1) (h2 : k0_cond2 v1 = 1#1) (h3 : ¬ k0_cond3 v1 = 1#1) :
    restP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v5 v7 k0_hw1 k0_hw2 k0_hw3 = gatP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 k0_hw1 h2 := by
  unfold restP; rw [if_neg hc, dif_pos h2, dif_neg h3]; simp only [bind_pure_unit, pure_bind]

/-- At every other point it is a tile of the product. -/
theorem restP_tile (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (v1 v3 v5 v7 : BitVec 32) (k0_hw1 : k0_chk1 v1 v3) (k0_hw2 : k0_chk2 v1 v5) (k0_hw3 : k0_chk3 v1 v7) (hc : ¬ (Scalar.cmpi .ne (Scalar.extui (Scalar.cmpi .eq (BitVec.ofNat 32 (i 0).val) 0#32) : BitVec 32) 0#32 : BitVec 1) = 1#1) (h2 : ¬ k0_cond2 v1 = 1#1) (h3 : k0_cond3 v1 = 1#1) :
    restP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v3 v5 v7 k0_hw1 k0_hw2 k0_hw3 = tileP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v1 v5 v7 k0_hw2 k0_hw3 h3 := by
  unfold restP; rw [if_neg hc, dif_neg h2, dif_pos h3]; simp only [pure_bind]

set_option maxHeartbeats 4000000 in
/-- The body reads its four words from the table and goes on with them. -/
theorem head_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (tb : S4x72.Idx → BitVec 32) (q : PosShare TreeShare)
    (h1 : k0_chk1 (tb ((Rect.unit (s := S4x72) (k0_off4 i) S1x1.size (k0_off4_inb i)).emb (Shape.Idx.first (numel1_S1x1.symm ▸ Nat.one_pos)))) (tb ((Rect.unit (s := S4x72) (k0_off1 i) S1x1.size (k0_off1_inb i)).emb (Shape.Idx.first (numel1_S1x1.symm ▸ Nat.one_pos))))) (h2 : k0_chk2 (tb ((Rect.unit (s := S4x72) (k0_off4 i) S1x1.size (k0_off4_inb i)).emb (Shape.Idx.first (numel1_S1x1.symm ▸ Nat.one_pos)))) (tb ((Rect.unit (s := S4x72) (k0_off2 i) S1x1.size (k0_off2_inb i)).emb (Shape.Idx.first (numel1_S1x1.symm ▸ Nat.one_pos))))) (h3 : k0_chk3 (tb ((Rect.unit (s := S4x72) (k0_off4 i) S1x1.size (k0_off4_inb i)).emb (Shape.Idx.first (numel1_S1x1.symm ▸ Nat.one_pos)))) (tb ((Rect.unit (s := S4x72) (k0_off3 i) S1x1.size (k0_off3_inb i)).emb (Shape.Idx.first (numel1_S1x1.symm ▸ Nat.one_pos))))) (E : Set ℕ) (K : PUnit → sProp 𝕄) :
    iprop(owns (c : Thread nD τ) arg1 q (tb : Vec F S4x72 .i32) ∗ (owns (c : Thread nD τ) arg1 q (tb : Vec F S4x72 .i32) -∗ wp frame (wpE (defs₀ (F := F)) Variants.none c none) E (restP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (tb ((Rect.unit (s := S4x72) (k0_off4 i) S1x1.size (k0_off4_inb i)).emb (Shape.Idx.first (numel1_S1x1.symm ▸ Nat.one_pos)))) (tb ((Rect.unit (s := S4x72) (k0_off1 i) S1x1.size (k0_off1_inb i)).emb (Shape.Idx.first (numel1_S1x1.symm ▸ Nat.one_pos)))) (tb ((Rect.unit (s := S4x72) (k0_off2 i) S1x1.size (k0_off2_inb i)).emb (Shape.Idx.first (numel1_S1x1.symm ▸ Nat.one_pos)))) (tb ((Rect.unit (s := S4x72) (k0_off3 i) S1x1.size (k0_off3_inb i)).emb (Shape.Idx.first (numel1_S1x1.symm ▸ Nat.one_pos)))) h1 h2 h3) K))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  rw [body_eq]
  iintro ⟨H1, Hk⟩
  iapply word_spec
  isplitl [H1]; · iexact H1
  iintro H1
  iapply word_spec
  isplitl [H1]; · iexact H1
  iintro H1
  iapply assume_spec (h := h1)
  iapply word_spec
  isplitl [H1]; · iexact H1
  iintro H1
  iapply assume_spec (h := h2)
  iapply word_spec
  isplitl [H1]; · iexact H1
  iintro H1
  iapply assume_spec (h := h3)
  iapply Hk; iexact H1

end Cert.KernelIdeal.Gen
end
-- ==== Proof.Table.lean ====
module

public import proofs.«01_k».proof.Proof.Launch
public import proofs.«01_k».proof.Proof.Gen.KernelIdeal.Skeleton
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule table -/

/-- The table the host writes. -/
def T : S4x72.Idx → BitVec 32 := fun i => lit0 (S4x72.rowMajor i)

/-- The same as the contents of the region's tables. -/
def pfT : pre0.Contents (Elt F) := fun | 0 => T | ⟨_ + 1, h⟩ => absurd h (Nat.not_lt.2 (Nat.le_add_left _ _))

/-- Whether a point works a block of rows, which block of rows, and which tile. -/
def wG (i : grid0.Coords) : BitVec 32 := T ((Rect.unit (s := S4x72) (k0_off4 i) S1x1.size (k0_off4_inb i)).emb (Shape.Idx.first (numel1_S1x1.symm ▸ Nat.one_pos)))
def wK (i : grid0.Coords) : BitVec 32 := T ((Rect.unit (s := S4x72) (k0_off1 i) S1x1.size (k0_off1_inb i)).emb (Shape.Idx.first (numel1_S1x1.symm ▸ Nat.one_pos)))
def wI (i : grid0.Coords) : BitVec 32 := T ((Rect.unit (s := S4x72) (k0_off2 i) S1x1.size (k0_off2_inb i)).emb (Shape.Idx.first (numel1_S1x1.symm ▸ Nat.one_pos)))
def wJ (i : grid0.Coords) : BitVec 32 := T ((Rect.unit (s := S4x72) (k0_off3 i) S1x1.size (k0_off3_inb i)).emb (Shape.Idx.first (numel1_S1x1.symm ▸ Nat.one_pos)))

/-- The table's rows written out. -/
def lG (t : ℕ) : ℕ := if t = 0 ∨ t = 1 + 1 ∨ t = 6 ∨ t = 12 ∨ t = 20 ∨ t = 30 ∨ t = 42 ∨ t = 56 then 1 else 0

/-- The block of rows a point works on, as a number: the largest `k` with `k² + k ≤ t`. -/
def kOf (t : ℕ) : ℕ := if t < 2 then 0 else if t < 6 then 1 else if t < 12 then 2 else if t < 20 then 3 else if t < 30 then 4 else if t < 42 then 5 else if t < 56 then 6 else 7
/-- How far past its block's first point a point is, less one. -/
def rOf (t : ℕ) : ℕ := t - (kOf t * kOf t + kOf t) - 1
/-- The tile a point writes (at a block's first point, the tile before it). -/
def iOf (t : ℕ) : ℕ := if lG t = 1 then (if kOf t = 0 then 0 else kOf t - 2) else if rOf t ≤ kOf t then kOf t else rOf t - kOf t - 1
def jOf (t : ℕ) : ℕ := if lG t = 1 then kOf t - 1 else if rOf t ≤ kOf t then rOf t else kOf t

theorem words : ∀ i : grid0.Coords, wG i = BitVec.ofNat 32 (lG (i 0).val) ∧ wK i = BitVec.ofNat 32 (kOf (i 0).val)
    ∧ wI i = BitVec.ofNat 32 (iOf (i 0).val) ∧ wJ i = BitVec.ofNat 32 (jOf (i 0).val) := by
  decide +kernel

/-- The words pass the body's checks. -/
theorem chk1 : ∀ i : grid0.Coords, k0_chk1 (wG i) (wK i) := by decide +kernel
theorem chk2 : ∀ i : grid0.Coords, k0_chk2 (wG i) (wI i) := by decide +kernel
theorem chk3 : ∀ i : grid0.Coords, k0_chk3 (wG i) (wJ i) := by decide +kernel

/-- The conditions, by the point. -/
theorem cond2_iff : ∀ i : grid0.Coords, k0_cond2 (wG i) = 1#1 ↔ lG (i 0).val = 1 := by decide +kernel
theorem cond3_iff : ∀ i : grid0.Coords, k0_cond3 (wG i) = 1#1 ↔ lG (i 0).val = 0 := by decide +kernel
theorem condInit_iff : ∀ i : grid0.Coords, (Scalar.cmpi .ne (Scalar.extui (Scalar.cmpi .eq (BitVec.ofNat 32 (i 0).val) 0#32) : BitVec 32) 0#32 : BitVec 1) = 1#1 ↔ (i 0).val = 0 := by
  decide +kernel
theorem coords_val : ∀ t : Fin grid0.N, ((grid0.coords t) 0).val = t.val := by decide +kernel

/-- Every block the tables name lies inside its array. -/
theorem in5 : ∀ (i : grid0.Coords) (a : Fin 2), ((![(wK i).toNat, 0] : Fin 2 → ℕ) a + 1) * S512x4096.size a ≤ S4096x4096.size a := by decide +kernel
theorem in6 : ∀ (i : grid0.Coords) (a : Fin 2), ((![(wK i).toNat, 0] : Fin 2 → ℕ) a + 1) * S512x64.size a ≤ S4096x64.size a := by decide +kernel
theorem in7 : ∀ (i : grid0.Coords) (a : Fin 2), ((![(wK i).toNat, 0] : Fin 2 → ℕ) a + 1) * S512x1.size a ≤ S4096x1.size a := by decide +kernel
theorem in16 : ∀ (i : grid0.Coords) (a : Fin 2), ((![(wI i).toNat, (wJ i).toNat] : Fin 2 → ℕ) a + 1) * S512x512.size a ≤ S4096x4096.size a := by decide +kernel

theorem okT : ok0 (F := F) pfT :=
  ⟨fun i => ⟨in5 i, .inl rfl⟩, fun i => ⟨in6 i, .inl rfl⟩, fun i => ⟨in7 i, .inl rfl⟩, fun i => ⟨in7 i, .inl rfl⟩, fun i => ⟨in7 i, .inl rfl⟩,
    fun i => ⟨in16 i, .inl rfl⟩, fun i => ⟨in6 i, .inl rfl⟩⟩

/-- The region's configuration at the table. -/
abbrev adm : (pcfg0 (F := F)).Adm := ⟨pfT, okT⟩
abbrev cfgT : Pipeline.Cfg sig Λ₀ := cfg0 (F := F) adm

/-! ## When the two results' blocks are written back -/

theorem off4_lt : ∀ i : grid0.Coords, ∀ a : Fin 2, k0_off4 i a + 1 ≤ S4x72.size a := by decide +kernel
theorem atD_eq : ∀ i : grid0.Coords, (pfT (F := F)).atD 0 (k0_off4 i) = wG i := by
  intro i
  have h' : ∀ i : grid0.Coords, (T fun a => ⟨k0_off4 i a, off4_lt i a⟩) = wG i := by decide +kernel
  exact (dif_pos (off4_lt i)).trans (h' i)

theorem idle16 (t : Fin grid0.N) : (cfgT (F := F)).idle 16 (grid0.coords t) = decide (lG t.val = 1) := by
  show (!(k0_cond3 ((pfT (F := F)).atD 0 (k0_off4 (grid0.coords t))) == 1#1)) = _
  rw [atD_eq]
  have h : ∀ t : Fin grid0.N, (!(k0_cond3 (wG (grid0.coords t)) == 1#1)) = decide (lG t.val = 1) := by decide +kernel
  exact h t
theorem idle17 (t : Fin grid0.N) : (cfgT (F := F)).idle 17 (grid0.coords t) = decide (lG t.val = 0) := by
  show (!(k0_cond2 ((pfT (F := F)).atD 0 (k0_off4 (grid0.coords t))) == 1#1)) = _
  rw [atD_eq]
  have h : ∀ t : Fin grid0.N, (!(k0_cond2 (wG (grid0.coords t)) == 1#1)) = decide (lG t.val = 0) := by decide +kernel
  exact h t

theorem flush16 (t : Fin grid0.N) : ((cfgT (F := F)).win 16).flush t = decide (t.val ≠ 0 ∧ lG (t.val + 1) ≠ 1) := by
  have h : ∀ t : Fin grid0.N, Pipeline.Window.flushOf (r := 2) grid0 true (fun i => ![(wI i).toNat, (wJ i).toNat]) t = decide (t.val ≠ 0 ∧ lG (t.val + 1) ≠ 1) := by decide +kernel
  exact h t
theorem flush17 (t : Fin grid0.N) : ((cfgT (F := F)).win 17).flush t = decide (t.val + 1 = 72 ∨ lG (t.val + 1) = 1) := by
  have h : ∀ t : Fin grid0.N, Pipeline.Window.flushOf (r := 2) grid0 true (fun i => ![(wK i).toNat, 0]) t = decide (t.val + 1 = 72 ∨ lG (t.val + 1) = 1) := by decide +kernel
  exact h t

/-! ## The host operations before the region -/

variable (m : (ℓ : Loc nD τ sig) → Buf (Elt F) ℓ) (ρ : Dev nD → PrngReg)

/-- What the region finds in a buffer. -/
def V (c : Dev nD) (b : Ref sig .tc) : Buf (Elt F) ((c.tc : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostOps0_tail : (hostOps0 (F := F)).tail.Forall fun op => (Proc.devRef .tc main_call0_c : DevRef τ sig) ∉ op.writes := by
  simp only [hostOps0, List.flatten_cons, List.flatten_nil, List.append_nil, List.cons_append, List.tail_cons,
      List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The region finds the table the first host operation writes. -/
theorem V_table (c : Dev nD) : V m c main_call0_c = (T : Vec F S4x72 .i32) :=
  (StableHlo.after_of_forall_not_mem (b := Proc.devRef .tc main_call0_c) (hostOps0 (F := F)).tail _ (List.forall_iff_forall_mem.mp hostOps0_tail)).trans
    (StableHlo.nullary_result ..)

theorem V_pre (c : Dev nD) (j : Fin 1) : V m c (pre0.ref j) = (pfT (F := F)) j := by
  obtain rfl : j = 0 := Subsingleton.elim _ _
  exact V_table m c

end Cert.KernelIdeal.Gen
end
-- ==== Proof.Run.lean ====
module

public import proofs.«01_k».proof.Proof.Launch
public import proofs.«01_k».proof.Proof.Gen.KernelIdeal.Skeleton
public import proofs.«01_k».proof.Proof.Body
public import proofs.«01_k».proof.Proof.Table
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put window_put_same window_put_of_disjoint)

variable (m : (ℓ : Loc nD τ sig) → Buf (Elt F) ℓ) (ρ : Dev nD → PrngReg)

/-! ## The values -/

/-- Window `w`'s block at point `t`, read off its array as the region finds it. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The first point, and the first point of block `k`. -/
def t0 : Fin grid0.N := ⟨0, by decide⟩
theorem sPt_lt : ∀ k : Fin 8, k.val * k.val + k.val < grid0.N := by decide
def sPt (k : Fin 8) : Fin grid0.N := ⟨k.val * k.val + k.val, sPt_lt k⟩
theorem sPt_lG : ∀ k : Fin 8, lG (grid0.coords (sPt k) 0).val = 1 := by decide +kernel

/-- The five arrays the set-up leaves in scratch. -/
def I20 (c : Dev nD) : Vec F S4096x65 .bf16 := k0_pay11 (iblk m c 0 t0) (iblk m c 1 t0)
def I21 (c : Dev nD) : Vec F S4096x65 .bf16 := k0_pay12 (iblk m c 0 t0) (iblk m c 1 t0)
def I22 (c : Dev nD) : Vec F S4096x4 .bf16 := k0_pay8 (iblk m c 0 t0) (iblk m c 1 t0) (iblk m c 2 t0)
def I23 (c : Dev nD) : Vec F S16x4096 .bf16 := k0_pay9 (iblk m c 0 t0) (iblk m c 1 t0) (iblk m c 4 t0)
def I24 (c : Dev nD) : Vec F S4096x2 .f32 := k0_pay1 (k0_pay6 (iblk m c 0 t0) (iblk m c 1 t0)) (k0_pay7 (iblk m c 0 t0) (iblk m c 1 t0) (iblk m c 2 t0)) (iblk m c 3 t0)

/-- Block `k` of the new state, as the point `t` that works it computes it. -/
def H1at (c : Dev nD) (t : Fin grid0.N) (h : lG (grid0.coords t 0).val = 1) : FVec F S512x64 .f32 :=
  gatH (wG (grid0.coords t)) (wK (grid0.coords t)) (chk1 _) ((cond2_iff _).2 h) (iblk m c 5 t) (iblk m c 6 t) (iblk m c 7 t) (iblk m c 8 t) (iblk m c 9 t)
    (iblk m c 10 t) (iblk m c 11 t) (iblk m c 12 t) (iblk m c 13 t) (iblk m c 14 t) (I20 m c) (I21 m c) (I22 m c) (I23 m c) (I24 m c)
def H1 (c : Dev nD) (k : Fin 8) : FVec F S512x64 .f32 := H1at m c (sPt k) (sPt_lG k)
/-- The same as stored, and its product with the bilinear form's matrix. -/
def H1c (c : Dev nD) (k : Fin 8) : FVec F S512x64 .f32 := shapeCast S512x64 (H1 m c k) shapeCasts_S512x64_S512x64
def HR (c : Dev nD) (k : Fin 8) : FVec F S512x64 .f32 := timesR (H1 m c k) (iblk m c 15 (sPt k))
/-- A tile of the product. -/
def tile (c : Dev nD) (i j : Fin 8) : FVec F S512x512 .f32 := k0_pay5 (HR m c i) (H1c m c j)

theorem kOf_lt : ∀ t : Fin grid0.N, kOf t.val < 8 := by decide +kernel
theorem iOf_lt : ∀ t : Fin grid0.N, iOf t.val < 8 := by decide +kernel
theorem jOf_lt : ∀ t : Fin grid0.N, jOf t.val < 8 := by decide +kernel
def kF (t : Fin grid0.N) : Fin 8 := ⟨kOf t.val, kOf_lt t⟩
def iF (t : Fin grid0.N) : Fin 8 := ⟨iOf t.val, iOf_lt t⟩
def jF (t : Fin grid0.N) : Fin 8 := ⟨jOf t.val, jOf_lt t⟩

/-- Where block `k` of rows starts. -/
def offR (k : Fin 8) : Fin 2 → ℕ := ![512 * k.val, 0]
theorem offR_inb : ∀ (k : Fin 8) (a : Fin 2), offR k a + S512x64.size a ≤ S4096x64.size a := by decide
theorem off12 : ∀ t : Fin grid0.N, k0_off12 (wK (grid0.coords t)) = offR (kF t) := by decide +kernel
theorem off13 : ∀ t : Fin grid0.N, lG t.val = 0 → k0_off13 (wI (grid0.coords t)) = offR (iF t) := by decide +kernel
theorem off14 : ∀ t : Fin grid0.N, lG t.val = 0 → k0_off14 (wJ (grid0.coords t)) = offR (jF t) := by decide +kernel
theorem lG_cases : ∀ t : Fin grid0.N, lG t.val = 0 ∨ lG t.val = 1 := by decide +kernel
theorem sPt_kF : ∀ t : Fin grid0.N, lG t.val = 1 → sPt (kF t) = t := by decide +kernel
theorem iF_done : ∀ t : Fin grid0.N, lG t.val = 0 → (iF t).val * (iF t).val + (iF t).val < t.val := by decide +kernel
theorem jF_done : ∀ t : Fin grid0.N, lG t.val = 0 → (jF t).val * (jF t).val + (jF t).val < t.val := by decide +kernel
theorem done_gat : ∀ (t : Fin grid0.N) (k : Fin 8), lG t.val = 1 → k.val * k.val + k.val < t.val + 1 → k ≠ kF t → k.val * k.val + k.val < t.val := by decide +kernel
theorem done_tile : ∀ (t : Fin grid0.N) (k : Fin 8), lG t.val = 0 → k.val * k.val + k.val < t.val + 1 → k.val * k.val + k.val < t.val := by decide +kernel
theorem kF_pred : ∀ t : Fin grid0.N, lG t.val = 0 → t.val ≠ 0 ∧ kOf (t.val - 1) = kOf t.val := by decide +kernel
theorem ij_pred : ∀ t : Fin grid0.N, lG t.val = 1 → t.val ≠ 0 → lG (t.val - 1) = 0 ∧ iOf (t.val - 1) = iOf t.val ∧ jOf (t.val - 1) = jOf t.val := by decide +kernel

/-- What is known of the scratch before point `n`: from the second point on the set-up's arrays, and the finished
    blocks of the new state, times the matrix and not. -/
def Good (c : Dev nD) (n : ℕ) (X20 : Vec F S4096x65 .bf16) (X21 : Vec F S4096x65 .bf16) (X22 : Vec F S4096x4 .bf16) (X23 : Vec F S16x4096 .bf16) (X24 : Vec F S4096x2 .f32) (X25 : Vec F S4096x64 .f32) (X26 : Vec F S4096x64 .f32) : Prop :=
  (n ≠ 0 → X20 = I20 m c ∧ X21 = I21 m c ∧ X22 = I22 m c ∧ X23 = I23 m c ∧ X24 = I24 m c) ∧
    ∀ k : Fin 8, k.val * k.val + k.val < n → window X25 (offR k) S512x64.size (offR_inb k) = H1c m c k ∧ window X26 (offR k) S512x64.size (offR_inb k) = HR m c k

theorem offR_disjoint {k k' : Fin 8} (h : k ≠ k') : ∃ a : Fin 2, offR k a + S512x64.size a ≤ offR k' a ∨ offR k' a + S512x64.size a ≤ offR k a := by
  revert k k'; decide

theorem Good.gat {c : Dev nD} {t : Fin grid0.N} (h : lG t.val = 1) {X20 : Vec F S4096x65 .bf16} {X21 : Vec F S4096x65 .bf16} {X22 : Vec F S4096x4 .bf16} {X23 : Vec F S16x4096 .bf16} {X24 : Vec F S4096x2 .f32} {X25 : Vec F S4096x64 .f32} {X26 : Vec F S4096x64 .f32} (hg : Good m c t.val X20 X21 X22 X23 X24 X25 X26) :
    Good m c (t.val + 1) (I20 m c) (I21 m c) (I22 m c) (I23 m c) (I24 m c) (put X25 (k0_off12 (wK (grid0.coords t))) S512x64.size (H1c m c (kF t))) (put X26 (k0_off12 (wK (grid0.coords t))) S512x64.size (HR m c (kF t))) := by
  refine ⟨fun _ => ⟨rfl, rfl, rfl, rfl, rfl⟩, fun k hk => ?_⟩
  rw [off12]
  by_cases e : k = kF t
  · subst e; exact ⟨window_put_same _ _ _ _ _, window_put_same _ _ _ _ _⟩
  · obtain ⟨a, ha⟩ := offR_disjoint e
    have := hg.2 k (done_gat t k h hk e)
    constructor
    · rw [window_put_of_disjoint _ _ _ _ _ _ _ a (by first | exact ha | exact ha.symm)]; exact this.1
    · rw [window_put_of_disjoint _ _ _ _ _ _ _ a (by first | exact ha | exact ha.symm)]; exact this.2

theorem Good.tile {c : Dev nD} {t : Fin grid0.N} (h : lG t.val = 0) {X20 : Vec F S4096x65 .bf16} {X21 : Vec F S4096x65 .bf16} {X22 : Vec F S4096x4 .bf16} {X23 : Vec F S16x4096 .bf16} {X24 : Vec F S4096x2 .f32} {X25 : Vec F S4096x64 .f32} {X26 : Vec F S4096x64 .f32} (hg : Good m c t.val X20 X21 X22 X23 X24 X25 X26) :
    Good m c (t.val + 1) X20 X21 X22 X23 X24 X25 X26 :=
  ⟨fun _ => hg.1 (kF_pred t h).1, fun k hk => hg.2 k (done_tile t k h hk)⟩

/-! ## The proof data -/

abbrev sc20 : Memref sig .tc .vmem S4096x65 .bf16 := Memref.whole cc0_scratch0
abbrev sc21 : Memref sig .tc .vmem S4096x65 .bf16 := Memref.whole cc0_scratch1
abbrev sc22 : Memref sig .tc .vmem S4096x4 .bf16 := Memref.whole cc0_scratch2
abbrev sc23 : Memref sig .tc .vmem S16x4096 .bf16 := Memref.whole cc0_scratch3
abbrev sc24 : Memref sig .tc .vmem S4096x2 .f32 := Memref.whole cc0_scratch4
abbrev sc25 : Memref sig .tc .vmem S4096x64 .f32 := Memref.whole cc0_scratch5
abbrev sc26 : Memref sig .tc .vmem S4096x64 .f32 := Memref.whole cc0_scratch6

/-- The invariant before point `n`. -/
def PhiS (c : Dev nD) (n : ℕ) : sProp 𝕄 :=
  iprop((∃ X20 X21 X22 X23 X24 X25 X26, ⌜Good m c n X20 X21 X22 X23 X24 X25 X26⌝ ∗ owns (c : Thread nD τ) sc20 fullShare X20 ∗ owns (c : Thread nD τ) sc21 fullShare X21 ∗ owns (c : Thread nD τ) sc22 fullShare X22 ∗ owns (c : Thread nD τ) sc23 fullShare X23 ∗ owns (c : Thread nD τ) sc24 fullShare X24 ∗ owns (c : Thread nD τ) sc25 fullShare X25 ∗ owns (c : Thread nD τ) sc26 fullShare X26)
    ∗ (∃ r, prngReg c r) ∗ owns (c : Thread nD τ) (Memref.whole main_call0_c) fullShare.right (T : Vec F S4x72 .i32))

/-- The proof data: the arrays as the region finds them; after each point every input's buffer at its block, the
    first result's at the current tile, the second's at the current block of rows. -/
def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => tile m c (iF t) (jF t)
    | ⟨17, _⟩ => H1 m c (kF t)
    | ⟨_ + 18, h⟩ => absurd h (Nat.not_lt.2 (Nat.le_add_left _ _))
  Φ t := PhiS m c t.val
  q _ := fullShare
  owed _ := 0

theorem A_eq (c : Dev nD) (w : Fin (cfgT (F := F)).W) : (dats m 0 c).A w = V m c (Pipeline.arrRef spec0 w) := by
  dsimp only [dats]
theorem PhiS_castSucc (c : Dev nD) (t : Fin (cfgT (F := F)).N) : (dats m 0 c).Φ t.castSucc = PhiS m c t.val := by
  dsimp only [dats]; exact Pipeline.Dat.Φ_castSucc (fun n _ => PhiS m c n) t
theorem PhiS_succ (c : Dev nD) (t : Fin (cfgT (F := F)).N) : (dats m 0 c).Φ t.succ = PhiS m c (t.val + 1) := by
  dsimp only [dats]; rfl
theorem after0_0 (c : Dev nD) (t : Fin (cfgT (F := F)).N) : (dats m 0 c).after 0 t = iblk m c 0 t := by dsimp only [dats]; try rfl
theorem after0_1 (c : Dev nD) (t : Fin (cfgT (F := F)).N) : (dats m 0 c).after 1 t = iblk m c 1 t := by dsimp only [dats]; try rfl
theorem after0_2 (c : Dev nD) (t : Fin (cfgT (F := F)).N) : (dats m 0 c).after 2 t = iblk m c 2 t := by dsimp only [dats]; try rfl
theorem after0_3 (c : Dev nD) (t : Fin (cfgT (F := F)).N) : (dats m 0 c).after 3 t = iblk m c 3 t := by dsimp only [dats]; try rfl
theorem after0_4 (c : Dev nD) (t : Fin (cfgT (F := F)).N) : (dats m 0 c).after 4 t = iblk m c 4 t := by dsimp only [dats]; try rfl
theorem after0_5 (c : Dev nD) (t : Fin (cfgT (F := F)).N) : (dats m 0 c).after 5 t = iblk m c 5 t := by dsimp only [dats]; try rfl
theorem after0_6 (c : Dev nD) (t : Fin (cfgT (F := F)).N) : (dats m 0 c).after 6 t = iblk m c 6 t := by dsimp only [dats]; try rfl
theorem after0_7 (c : Dev nD) (t : Fin (cfgT (F := F)).N) : (dats m 0 c).after 7 t = iblk m c 7 t := by dsimp only [dats]; try rfl
theorem after0_8 (c : Dev nD) (t : Fin (cfgT (F := F)).N) : (dats m 0 c).after 8 t = iblk m c 8 t := by dsimp only [dats]; try rfl
theorem after0_9 (c : Dev nD) (t : Fin (cfgT (F := F)).N) : (dats m 0 c).after 9 t = iblk m c 9 t := by dsimp only [dats]; try rfl
theorem after0_10 (c : Dev nD) (t : Fin (cfgT (F := F)).N) : (dats m 0 c).after 10 t = iblk m c 10 t := by dsimp only [dats]; try rfl
theorem after0_11 (c : Dev nD) (t : Fin (cfgT (F := F)).N) : (dats m 0 c).after 11 t = iblk m c 11 t := by dsimp only [dats]; try rfl
theorem after0_12 (c : Dev nD) (t : Fin (cfgT (F := F)).N) : (dats m 0 c).after 12 t = iblk m c 12 t := by dsimp only [dats]; try rfl
theorem after0_13 (c : Dev nD) (t : Fin (cfgT (F := F)).N) : (dats m 0 c).after 13 t = iblk m c 13 t := by dsimp only [dats]; try rfl
theorem after0_14 (c : Dev nD) (t : Fin (cfgT (F := F)).N) : (dats m 0 c).after 14 t = iblk m c 14 t := by dsimp only [dats]; try rfl
theorem after0_15 (c : Dev nD) (t : Fin (cfgT (F := F)).N) : (dats m 0 c).after 15 t = iblk m c 15 t := by dsimp only [dats]; try rfl
theorem after0_16 (c : Dev nD) (t : Fin (cfgT (F := F)).N) : (dats m 0 c).after 16 t = tile m c (iF t) (jF t) := by dsimp only [dats]; try rfl
theorem after0_17 (c : Dev nD) (t : Fin (cfgT (F := F)).N) : (dats m 0 c).after 17 t = H1 m c (kF t) := by dsimp only [dats]; try rfl
theorem before0_0 (c : Dev nD) (t : Fin (cfgT (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin (cfgT (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin (cfgT (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin (cfgT (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)
theorem before0_4 (c : Dev nD) (t : Fin (cfgT (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]) t d).trans
    (by unfold Dat.fetched Dat.blockOf iblk; rw [A_eq]; try rfl)
theorem before0_5 (c : Dev nD) (t : Fin (cfgT (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]) t d).trans
    (by unfold Dat.fetched Dat.blockOf iblk; rw [A_eq]; try rfl)
theorem before0_6 (c : Dev nD) (t : Fin (cfgT (F := F)).N) (d) : (dats m 0 c).before 6 t d = iblk m c 6 t :=
  ((dats m 0 c).before_in_eq_fetched 6 rfl (fun _ => rfl) (fun _ _ _ => rfl) (fun t => by rw [after0_6]; unfold Dat.blockOf iblk; rw [A_eq]) t d).trans
    (by unfold Dat.fetched Dat.blockOf iblk; rw [A_eq]; try rfl)
theorem before0_7 (c : Dev nD) (t : Fin (cfgT (F := F)).N) (d) : (dats m 0 c).before 7 t d = iblk m c 7 t :=
  ((dats m 0 c).before_in_eq_fetched 7 rfl (fun _ => rfl) (fun _ _ _ => rfl) (fun t => by rw [after0_7]; unfold Dat.blockOf iblk; rw [A_eq]) t d).trans
    (by unfold Dat.fetched Dat.blockOf iblk; rw [A_eq]; try rfl)
theorem before0_8 (c : Dev nD) (t : Fin (cfgT (F := F)).N) (d) : (dats m 0 c).before 8 t d = iblk m c 8 t :=
  ((dats m 0 c).before_in_eq_fetched 8 rfl (fun _ => rfl) (fun _ _ _ => rfl) (fun t => by rw [after0_8]; unfold Dat.blockOf iblk; rw [A_eq]) t d).trans
    (by unfold Dat.fetched Dat.blockOf iblk; rw [A_eq]; try rfl)
theorem before0_9 (c : Dev nD) (t : Fin (cfgT (F := F)).N) (d) : (dats m 0 c).before 9 t d = iblk m c 9 t :=
  ((dats m 0 c).before_in_eq_fetched 9 rfl (fun _ => rfl) (fun _ _ _ => rfl) (fun t => by rw [after0_9]; unfold Dat.blockOf iblk; rw [A_eq]) t d).trans
    (by unfold Dat.fetched Dat.blockOf iblk; rw [A_eq]; try rfl)
theorem before0_10 (c : Dev nD) (t : Fin (cfgT (F := F)).N) (d) : (dats m 0 c).before 10 t d = iblk m c 10 t :=
  ((dats m 0 c).before_in_eq_fetched 10 rfl (fun _ => rfl) (fun _ _ _ => rfl) (fun t => by rw [after0_10]; unfold Dat.blockOf iblk; rw [A_eq]) t d).trans
    (by unfold Dat.fetched Dat.blockOf iblk; rw [A_eq]; try rfl)
theorem before0_11 (c : Dev nD) (t : Fin (cfgT (F := F)).N) (d) : (dats m 0 c).before 11 t d = iblk m c 11 t :=
  ((dats m 0 c).before_in_eq_fetched 11 rfl (fun _ => rfl) (fun _ _ _ => rfl) (fun t => by rw [after0_11]; unfold Dat.blockOf iblk; rw [A_eq]) t d).trans
    (by unfold Dat.fetched Dat.blockOf iblk; rw [A_eq]; try rfl)
theorem before0_12 (c : Dev nD) (t : Fin (cfgT (F := F)).N) (d) : (dats m 0 c).before 12 t d = iblk m c 12 t :=
  ((dats m 0 c).before_in_eq_fetched 12 rfl (fun _ => rfl) (fun _ _ _ => rfl) (fun t => by rw [after0_12]; unfold Dat.blockOf iblk; rw [A_eq]) t d).trans
    (by unfold Dat.fetched Dat.blockOf iblk; rw [A_eq]; try rfl)
theorem before0_13 (c : Dev nD) (t : Fin (cfgT (F := F)).N) (d) : (dats m 0 c).before 13 t d = iblk m c 13 t :=
  ((dats m 0 c).before_in_eq_fetched 13 rfl (fun _ => rfl) (fun _ _ _ => rfl) (fun t => by rw [after0_13]; unfold Dat.blockOf iblk; rw [A_eq]) t d).trans
    (by unfold Dat.fetched Dat.blockOf iblk; rw [A_eq]; try rfl)
theorem before0_14 (c : Dev nD) (t : Fin (cfgT (F := F)).N) (d) : (dats m 0 c).before 14 t d = iblk m c 14 t :=
  ((dats m 0 c).before_in_eq_fetched 14 rfl (fun _ => rfl) (fun _ _ _ => rfl) (fun t => by rw [after0_14]; unfold Dat.blockOf iblk; rw [A_eq]) t d).trans
    (by unfold Dat.fetched Dat.blockOf iblk; rw [A_eq]; try rfl)
theorem before0_15 (c : Dev nD) (t : Fin (cfgT (F := F)).N) (d) : (dats m 0 c).before 15 t d = iblk m c 15 t :=
  ((dats m 0 c).before_in_eq_fetched 15 rfl (fun _ => rfl) (fun _ _ _ => rfl) (fun t => by rw [after0_15]; unfold Dat.blockOf iblk; rw [A_eq]) t d).trans
    (by unfold Dat.fetched Dat.blockOf iblk; rw [A_eq]; try rfl)

theorem left_idle {Λ₀ : Idealize.SL.Sem.Labels} {cfg : Cfg sig Λ₀} {c : Dev nD} (dat : Dat τ (Elt F) Unit ℕ (UR sig nD τ) ℕ cfg c) (w : Fin cfg.W) (t : Fin cfg.N) (d) (h : cfg.idle w (cfg.grid.coords t) = true) :
    dat.left w t d = dat.before w t d := by
  unfold Dat.left; rw [h]
theorem left_live {Λ₀ : Idealize.SL.Sem.Labels} {cfg : Cfg sig Λ₀} {c : Dev nD} (dat : Dat τ (Elt F) Unit ℕ (UR sig nD τ) ℕ cfg c) (w : Fin cfg.W) (t : Fin cfg.N) (d) (h : cfg.idle w (cfg.grid.coords t) = false) :
    dat.left w t d = dat.kept w t d := by
  unfold Dat.left; rw [h]

theorem nofetch16 (t : Fin (cfgT (F := F)).N) : ((cfgT (F := F)).win 16).fetch t = false := rfl
theorem nofetch17 (t : Fin (cfgT (F := F)).N) : ((cfgT (F := F)).win 17).fetch t = false := rfl

/-- At a point that works a block of rows, but the first, the first result's buffer still holds the tile before it. -/
theorem before16 (c : Dev nD) (t : Fin (cfgT (F := F)).N) (h : lG t.val = 1) (ht : t.val ≠ 0) (d) : (dats m 0 c).before 16 t d = tile m c (iF t) (jF t) := by
  obtain ⟨h1, h2, h3⟩ := ij_pred t h ht
  have hlt : t.val - 1 < (cfgT (F := F)).N := Nat.lt_of_le_of_lt (Nat.sub_le _ _) t.isLt
  have e1 : t.val - 1 + 1 = t.val := by omega
  rw [(dats m 0 c).before_of_pos 16 t ht (nofetch16 t), flush16 ⟨t.val - 1, hlt⟩]
  rw [if_neg (by simp only [decide_eq_true_eq]; rw [e1]; tauto)]
  have hi := idle16 (F := F) ⟨t.val - 1, hlt⟩
  rw [show decide (lG (⟨t.val - 1, hlt⟩ : Fin grid0.N).val = 1) = false from by simp only [decide_eq_false_iff_not]; omega] at hi
  rw [left_live (dats m 0 c) 16 ⟨t.val - 1, hlt⟩ d hi]
  have : (dats m 0 c).kept 16 ⟨t.val - 1, hlt⟩ d = (dats m 0 c).after 16 ⟨t.val - 1, hlt⟩ := rfl
  rw [this, after0_16]
  rw [show iF ⟨t.val - 1, hlt⟩ = iF t from Fin.ext h2, show jF ⟨t.val - 1, hlt⟩ = jF t from Fin.ext h3]

/-- At a tile's point the second result's buffer holds the block of rows worked last. -/
theorem before17 (c : Dev nD) : ∀ (n : ℕ) (t : Fin (cfgT (F := F)).N) (_ : t.val = n) (_ : lG t.val = 0) (d), (dats m 0 c).before 17 t d = H1 m c (kF t) := by
  intro n
  induction n with
  | zero => intro t hn h; exact absurd hn (kF_pred t h).1
  | succ n ih =>
    intro t hn h d
    obtain ⟨ht, hk⟩ := kF_pred t h
    have hlt : t.val - 1 < (cfgT (F := F)).N := Nat.lt_of_le_of_lt (Nat.sub_le _ _) t.isLt
    have e1 : t.val - 1 + 1 = t.val := by omega
    have hN : t.val < 72 := t.isLt
    rw [(dats m 0 c).before_of_pos 17 t ht (nofetch17 t), flush17 ⟨t.val - 1, hlt⟩]
    rw [if_neg (by simp only [decide_eq_true_eq]; rw [e1]; omega)]
    have hi := idle17 (F := F) ⟨t.val - 1, hlt⟩
    have hkF : kF ⟨t.val - 1, hlt⟩ = kF t := Fin.ext hk
    rcases lG_cases ⟨t.val - 1, hlt⟩ with h' | h'
    · rw [show decide (lG (⟨t.val - 1, hlt⟩ : Fin grid0.N).val = 0) = true from decide_eq_true h'] at hi
      rw [left_idle (dats m 0 c) 17 ⟨t.val - 1, hlt⟩ d hi]
      rw [ih ⟨t.val - 1, hlt⟩ (by show t.val - 1 = n; omega) h' d, hkF]
    · rw [show decide (lG (⟨t.val - 1, hlt⟩ : Fin grid0.N).val = 0) = false from by rw [h']; rfl] at hi
      rw [left_live (dats m 0 c) 17 ⟨t.val - 1, hlt⟩ d hi]
      have : (dats m 0 c).kept 17 ⟨t.val - 1, hlt⟩ d = (dats m 0 c).after 17 ⟨t.val - 1, hlt⟩ := rfl
      rw [this, after0_17, hkF]

end Cert.KernelIdeal.Gen
end
-- ==== Proof.Points.lean ====
module

public import proofs.«01_k».proof.Proof.Launch
public import proofs.«01_k».proof.Proof.Gen.KernelIdeal.Skeleton
public import proofs.«01_k».proof.Proof.Body
public import proofs.«01_k».proof.Proof.Table
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put window_put_same window_put_of_disjoint)

/-- The head at the launch's own table, its words named. -/
theorem head_table (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (q : PosShare TreeShare) (E : Set ℕ) (K : PUnit → sProp 𝕄) :
    iprop(owns (c : Thread nD τ) arg1 q (T : Vec F S4x72 .i32) ∗ (owns (c : Thread nD τ) arg1 q (T : Vec F S4x72 .i32) -∗ wp frame (wpE (defs₀ (F := F)) Variants.none c none) E (restP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wG i) (wK i) (wI i) (wJ i) (chk1 i) (chk2 i) (chk3 i)) K))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K :=
  head_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 T q (chk1 i) (chk2 i) (chk3 i) E K

set_option maxHeartbeats 4000000 in
/-- A block of rows, not the first. -/
theorem block_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (q : PosShare TreeShare) (hl : lG (i 0).val = 1) (h0 : (i 0).val ≠ 0)
    (x7 : Vec F S512x4096 .f32) (x8 : Vec F S512x64 .f32) (x9 : Vec F S512x1 .f32) (x10 : Vec F S512x1 .f32) (x11 : Vec F S512x1 .f32) (x12 : Vec F S1x64 .f32) (x13 : Vec F S1x64 .f32) (x14 : Vec F S192x64 .f32) (x15 : Vec F S192x64 .f32) (x16 : Vec F S192x64 .f32) (x17 : Vec F S64x64 .f32) (x19 : Vec F S512x64 .f32) (x20 : Vec F S4096x65 .bf16) (x21 : Vec F S4096x65 .bf16) (x22 : Vec F S4096x4 .bf16) (x23 : Vec F S16x4096 .bf16) (x24 : Vec F S4096x2 .f32) (x25 : Vec F S4096x64 .f32) (x26 : Vec F S4096x64 .f32) (E : Set ℕ) (K : PUnit → sProp 𝕄) :
    iprop(owns (c : Thread nD τ) arg1 q (T : Vec F S4x72 .i32) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (iprop(owns (c : Thread nD τ) arg1 q (T : Vec F S4x72 .i32) ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare (gatH (wG i) (wK i) (chk1 i) ((cond2_iff i).2 hl) x7 x8 x9 x10 x11 x12 x13 x14 x15 x16 x20 x21 x22 x23 x24) ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare (put x25 (k0_off12 (wK i)) S512x64.size (shapeCast S512x64 (gatH (wG i) (wK i) (chk1 i) ((cond2_iff i).2 hl) x7 x8 x9 x10 x11 x12 x13 x14 x15 x16 x20 x21 x22 x23 x24) shapeCasts_S512x64_S512x64)) ∗ owns (c : Thread nD τ) arg26 fullShare (put x26 (k0_off12 (wK i)) S512x64.size (timesR (gatH (wG i) (wK i) (chk1 i) ((cond2_iff i).2 hl) x7 x8 x9 x10 x11 x12 x13 x14 x15 x16 x20 x21 x22 x23 x24) x17))) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  iintro ⟨H1, H7, H8, H9, H10, H11, H12, H13, H14, H15, H16, H17, H19, H20, H21, H22, H23, H24, H25, H26, Hk⟩
  iapply head_table
  isplitl [H1]; · iexact H1
  iintro H1
  rw [restP_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wG i) (wK i) (wI i) (wJ i) (chk1 i) (chk2 i) (chk3 i) (fun h => h0 ((condInit_iff i).1 h)) ((cond2_iff i).2 hl) (fun h => absurd ((cond3_iff i).1 h) (by omega))]
  iapply gatP_spec
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H7, H8, H9, H10, H11, H12, H13, H14, H15, H16, H17, H19, H20, H21, H22, H23, H24, H25, H26⟩
  iapply Hk
  isplitl [H1]; · iexact H1
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- The first point: the set-up and the first block of rows. -/
theorem first_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (q : PosShare TreeShare) (hl : lG (i 0).val = 1) (h0 : (i 0).val = 0)
    (x2 : Vec F S4096x128 .f32) (x3 : Vec F S128x128 .f32) (x4 : Vec F S128x4 .f32) (x5 : Vec F S128x4 .f32) (x6 : Vec F S4x128 .f32) (x7 : Vec F S512x4096 .f32) (x8 : Vec F S512x64 .f32) (x9 : Vec F S512x1 .f32) (x10 : Vec F S512x1 .f32) (x11 : Vec F S512x1 .f32) (x12 : Vec F S1x64 .f32) (x13 : Vec F S1x64 .f32) (x14 : Vec F S192x64 .f32) (x15 : Vec F S192x64 .f32) (x16 : Vec F S192x64 .f32) (x17 : Vec F S64x64 .f32) (x19 : Vec F S512x64 .f32) (x20 : Vec F S4096x65 .bf16) (x21 : Vec F S4096x65 .bf16) (x22 : Vec F S4096x4 .bf16) (x23 : Vec F S16x4096 .bf16) (x24 : Vec F S4096x2 .f32) (x25 : Vec F S4096x64 .f32) (x26 : Vec F S4096x64 .f32) (E : Set ℕ) (K : PUnit → sProp 𝕄) :
    iprop(owns (c : Thread nD τ) arg1 q (T : Vec F S4x72 .i32) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ (iprop(owns (c : Thread nD τ) arg1 q (T : Vec F S4x72 .i32) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg19 fullShare (gatH (wG i) (wK i) (chk1 i) ((cond2_iff i).2 hl) x7 x8 x9 x10 x11 x12 x13 x14 x15 x16 (k0_pay11 x2 x3) (k0_pay12 x2 x3) (k0_pay8 x2 x3 x4) (k0_pay9 x2 x3 x6) (k0_pay1 (k0_pay6 x2 x3) (k0_pay7 x2 x3 x4) x5)) ∗ owns (c : Thread nD τ) arg20 fullShare (k0_pay11 x2 x3) ∗ owns (c : Thread nD τ) arg21 fullShare (k0_pay12 x2 x3) ∗ owns (c : Thread nD τ) arg22 fullShare (k0_pay8 x2 x3 x4) ∗ owns (c : Thread nD τ) arg23 fullShare (k0_pay9 x2 x3 x6) ∗ owns (c : Thread nD τ) arg24 fullShare (k0_pay1 (k0_pay6 x2 x3) (k0_pay7 x2 x3 x4) x5) ∗ owns (c : Thread nD τ) arg25 fullShare (put x25 (k0_off12 (wK i)) S512x64.size (shapeCast S512x64 (gatH (wG i) (wK i) (chk1 i) ((cond2_iff i).2 hl) x7 x8 x9 x10 x11 x12 x13 x14 x15 x16 (k0_pay11 x2 x3) (k0_pay12 x2 x3) (k0_pay8 x2 x3 x4) (k0_pay9 x2 x3 x6) (k0_pay1 (k0_pay6 x2 x3) (k0_pay7 x2 x3 x4) x5)) shapeCasts_S512x64_S512x64)) ∗ owns (c : Thread nD τ) arg26 fullShare (put x26 (k0_off12 (wK i)) S512x64.size (timesR (gatH (wG i) (wK i) (chk1 i) ((cond2_iff i).2 hl) x7 x8 x9 x10 x11 x12 x13 x14 x15 x16 (k0_pay11 x2 x3) (k0_pay12 x2 x3) (k0_pay8 x2 x3 x4) (k0_pay9 x2 x3 x6) (k0_pay1 (k0_pay6 x2 x3) (k0_pay7 x2 x3 x4) x5)) x17))) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  iintro ⟨H1, H2, H3, H4, H5, H6, H7, H8, H9, H10, H11, H12, H13, H14, H15, H16, H17, H19, H20, H21, H22, H23, H24, H25, H26, Hk⟩
  iapply head_table
  isplitl [H1]; · iexact H1
  iintro H1
  rw [restP_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wG i) (wK i) (wI i) (wJ i) (chk1 i) (chk2 i) (chk3 i) ((condInit_iff i).2 h0) ((cond2_iff i).2 hl) (fun h => absurd ((cond3_iff i).1 h) (by omega))]
  rw [wp_bind]
  iapply initP_spec
  isplitl [H2]; · iexact H2
  isplitl [H3]; · iexact H3
  isplitl [H4]; · iexact H4
  isplitl [H5]; · iexact H5
  isplitl [H6]; · iexact H6
  isplitl [H20]; · iexact H20
  isplitl [H21]; · iexact H21
  isplitl [H22]; · iexact H22
  isplitl [H23]; · iexact H23
  isplitl [H24]; · iexact H24
  iintro ⟨H2, H3, H4, H5, H6, H20, H21, H22, H23, H24⟩
  iapply gatP_spec
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H7, H8, H9, H10, H11, H12, H13, H14, H15, H16, H17, H19, H20, H21, H22, H23, H24, H25, H26⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

set_option maxHeartbeats 4000000 in
/-- A tile of the product. -/
theorem tile_spec (c : Dev nD) (i : grid0.Coords) (arg1 : Memref sig .tc .smem S4x72 .i32) (harg1 : arg1.IsWhole) (arg2 : Memref sig .tc .vmem S4096x128 .f32) (harg2 : arg2.IsWhole) (arg3 : Memref sig .tc .vmem S128x128 .f32) (harg3 : arg3.IsWhole) (arg4 : Memref sig .tc .vmem S128x4 .f32) (harg4 : arg4.IsWhole) (arg5 : Memref sig .tc .vmem S128x4 .f32) (harg5 : arg5.IsWhole) (arg6 : Memref sig .tc .vmem S4x128 .f32) (harg6 : arg6.IsWhole) (arg7 : Memref sig .tc .vmem S512x4096 .f32) (harg7 : arg7.IsWhole) (arg8 : Memref sig .tc .vmem S512x64 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S192x64 .f32) (harg14 : arg14.IsWhole) (arg15 : Memref sig .tc .vmem S192x64 .f32) (harg15 : arg15.IsWhole) (arg16 : Memref sig .tc .vmem S192x64 .f32) (harg16 : arg16.IsWhole) (arg17 : Memref sig .tc .vmem S64x64 .f32) (harg17 : arg17.IsWhole) (arg18 : Memref sig .tc .vmem S512x512 .f32) (harg18 : arg18.IsWhole) (arg19 : Memref sig .tc .vmem S512x64 .f32) (harg19 : arg19.IsWhole) (arg20 : Memref sig .tc .vmem S4096x65 .bf16) (harg20 : arg20.IsWhole) (arg21 : Memref sig .tc .vmem S4096x65 .bf16) (harg21 : arg21.IsWhole) (arg22 : Memref sig .tc .vmem S4096x4 .bf16) (harg22 : arg22.IsWhole) (arg23 : Memref sig .tc .vmem S16x4096 .bf16) (harg23 : arg23.IsWhole) (arg24 : Memref sig .tc .vmem S4096x2 .f32) (harg24 : arg24.IsWhole) (arg25 : Memref sig .tc .vmem S4096x64 .f32) (harg25 : arg25.IsWhole) (arg26 : Memref sig .tc .vmem S4096x64 .f32) (harg26 : arg26.IsWhole) (q : PosShare TreeShare) (hl : lG (i 0).val = 0) (h0 : (i 0).val ≠ 0)
    (x18 : Vec F S512x512 .f32) (x25 : Vec F S4096x64 .f32) (x26 : Vec F S4096x64 .f32) (E : Set ℕ) (K : PUnit → sProp 𝕄) :
    iprop(owns (c : Thread nD τ) arg1 q (T : Vec F S4x72 .i32) ∗ owns (c : Thread nD τ) arg18 fullShare x18 ∗ owns (c : Thread nD τ) arg25 fullShare x25 ∗ owns (c : Thread nD τ) arg26 fullShare x26 ∗ (iprop(owns (c : Thread nD τ) arg1 q (T : Vec F S4x72 .i32) ∗ owns (c : Thread nD τ) arg18 fullShare (k0_pay5 (window x26 (k0_off13 (wI i)) S512x64.size (k0_off13_inb (wG i) (wI i) (chk2 i) ((cond3_iff i).2 hl))) (window x25 (k0_off14 (wJ i)) S512x64.size (k0_off14_inb (wG i) (wJ i) (chk3 i) ((cond3_iff i).2 hl)))) ∗ owns (c : Thread nD τ) arg25 fullShare x25 ∗ owns (c : Thread nD τ) arg26 fullShare x26) -∗ K ⟨⟩))
      ⊢ wp frame (wpE (defs₀ (F := F)) Variants.none c none) E (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  iintro ⟨H1, H18, H25, H26, Hk⟩
  iapply head_table
  isplitl [H1]; · iexact H1
  iintro H1
  rw [restP_tile i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (wG i) (wK i) (wI i) (wJ i) (chk1 i) (chk2 i) (chk3 i) (fun h => h0 ((condInit_iff i).1 h)) (fun h => absurd ((cond2_iff i).1 h) (by omega)) ((cond3_iff i).2 hl)]
  iapply tileP_spec
  isplitl [H18]; · iexact H18
  isplitl [H25]; · iexact H25
  isplitl [H26]; · iexact H26
  iintro ⟨H18, H25, H26⟩
  iapply Hk
  isplitl [H1]; · iexact H1
  isplitl [H18]; · iexact H18
  isplitl [H25]; · iexact H25
  iexact H26

end Cert.KernelIdeal.Gen
end
-- ==== Proof.Sound.lean ====
module

public import proofs.«01_k».proof.Proof.Launch
public import proofs.«01_k».proof.Proof.Gen.KernelIdeal.Skeleton
public import proofs.«01_k».proof.Proof.Run
public import proofs.«01_k».proof.Proof.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put window_put_same window_put_of_disjoint)

variable (m : (ℓ : Loc nD τ sig) → Buf (Elt F) ℓ) (ρ : Dev nD → PrngReg)

/-! ## The body obligation -/

abbrev ms0 (t : Fin (cfgT (F := F)).N) : Memref sig .tc .vmem S4096x128 .f32 := spec0_0.stage ((cfgT (F := F)).slots t 0)
abbrev hs0 (t : Fin (cfgT (F := F)).N) : (ms0 t).IsWhole := hstage0_0 (((cfgT (F := F)).slots t 0).cast nbuf0_0)
abbrev ms1 (t : Fin (cfgT (F := F)).N) : Memref sig .tc .vmem S128x128 .f32 := spec0_1.stage ((cfgT (F := F)).slots t 1)
abbrev hs1 (t : Fin (cfgT (F := F)).N) : (ms1 t).IsWhole := hstage0_1 (((cfgT (F := F)).slots t 1).cast nbuf0_1)
abbrev ms2 (t : Fin (cfgT (F := F)).N) : Memref sig .tc .vmem S128x4 .f32 := spec0_2.stage ((cfgT (F := F)).slots t 2)
abbrev hs2 (t : Fin (cfgT (F := F)).N) : (ms2 t).IsWhole := hstage0_2 (((cfgT (F := F)).slots t 2).cast nbuf0_2)
abbrev ms3 (t : Fin (cfgT (F := F)).N) : Memref sig .tc .vmem S128x4 .f32 := spec0_3.stage ((cfgT (F := F)).slots t 3)
abbrev hs3 (t : Fin (cfgT (F := F)).N) : (ms3 t).IsWhole := hstage0_3 (((cfgT (F := F)).slots t 3).cast nbuf0_3)
abbrev ms4 (t : Fin (cfgT (F := F)).N) : Memref sig .tc .vmem S4x128 .f32 := spec0_4.stage ((cfgT (F := F)).slots t 4)
abbrev hs4 (t : Fin (cfgT (F := F)).N) : (ms4 t).IsWhole := hstage0_4 (((cfgT (F := F)).slots t 4).cast nbuf0_4)
abbrev ms5 (t : Fin (cfgT (F := F)).N) : Memref sig .tc .vmem S512x4096 .f32 := spec0_5.stage ((cfgT (F := F)).slots t 5)
abbrev hs5 (t : Fin (cfgT (F := F)).N) : (ms5 t).IsWhole := hstage0_5 (((cfgT (F := F)).slots t 5).cast nbuf0_5)
abbrev ms6 (t : Fin (cfgT (F := F)).N) : Memref sig .tc .vmem S512x64 .f32 := spec0_6.stage ((cfgT (F := F)).slots t 6)
abbrev hs6 (t : Fin (cfgT (F := F)).N) : (ms6 t).IsWhole := hstage0_6 (((cfgT (F := F)).slots t 6).cast nbuf0_6)
abbrev ms7 (t : Fin (cfgT (F := F)).N) : Memref sig .tc .vmem S512x1 .f32 := spec0_7.stage ((cfgT (F := F)).slots t 7)
abbrev hs7 (t : Fin (cfgT (F := F)).N) : (ms7 t).IsWhole := hstage0_7 (((cfgT (F := F)).slots t 7).cast nbuf0_7)
abbrev ms8 (t : Fin (cfgT (F := F)).N) : Memref sig .tc .vmem S512x1 .f32 := spec0_8.stage ((cfgT (F := F)).slots t 8)
abbrev hs8 (t : Fin (cfgT (F := F)).N) : (ms8 t).IsWhole := hstage0_8 (((cfgT (F := F)).slots t 8).cast nbuf0_8)
abbrev ms9 (t : Fin (cfgT (F := F)).N) : Memref sig .tc .vmem S512x1 .f32 := spec0_9.stage ((cfgT (F := F)).slots t 9)
abbrev hs9 (t : Fin (cfgT (F := F)).N) : (ms9 t).IsWhole := hstage0_9 (((cfgT (F := F)).slots t 9).cast nbuf0_9)
abbrev ms10 (t : Fin (cfgT (F := F)).N) : Memref sig .tc .vmem S1x64 .f32 := spec0_10.stage ((cfgT (F := F)).slots t 10)
abbrev hs10 (t : Fin (cfgT (F := F)).N) : (ms10 t).IsWhole := hstage0_10 (((cfgT (F := F)).slots t 10).cast nbuf0_10)
abbrev ms11 (t : Fin (cfgT (F := F)).N) : Memref sig .tc .vmem S1x64 .f32 := spec0_11.stage ((cfgT (F := F)).slots t 11)
abbrev hs11 (t : Fin (cfgT (F := F)).N) : (ms11 t).IsWhole := hstage0_11 (((cfgT (F := F)).slots t 11).cast nbuf0_11)
abbrev ms12 (t : Fin (cfgT (F := F)).N) : Memref sig .tc .vmem S192x64 .f32 := spec0_12.stage ((cfgT (F := F)).slots t 12)
abbrev hs12 (t : Fin (cfgT (F := F)).N) : (ms12 t).IsWhole := hstage0_12 (((cfgT (F := F)).slots t 12).cast nbuf0_12)
abbrev ms13 (t : Fin (cfgT (F := F)).N) : Memref sig .tc .vmem S192x64 .f32 := spec0_13.stage ((cfgT (F := F)).slots t 13)
abbrev hs13 (t : Fin (cfgT (F := F)).N) : (ms13 t).IsWhole := hstage0_13 (((cfgT (F := F)).slots t 13).cast nbuf0_13)
abbrev ms14 (t : Fin (cfgT (F := F)).N) : Memref sig .tc .vmem S192x64 .f32 := spec0_14.stage ((cfgT (F := F)).slots t 14)
abbrev hs14 (t : Fin (cfgT (F := F)).N) : (ms14 t).IsWhole := hstage0_14 (((cfgT (F := F)).slots t 14).cast nbuf0_14)
abbrev ms15 (t : Fin (cfgT (F := F)).N) : Memref sig .tc .vmem S64x64 .f32 := spec0_15.stage ((cfgT (F := F)).slots t 15)
abbrev hs15 (t : Fin (cfgT (F := F)).N) : (ms15 t).IsWhole := hstage0_15 (((cfgT (F := F)).slots t 15).cast nbuf0_15)
abbrev ms16 (t : Fin (cfgT (F := F)).N) : Memref sig .tc .vmem S512x512 .f32 := spec0_16.stage ((cfgT (F := F)).slots t 16)
abbrev hs16 (t : Fin (cfgT (F := F)).N) : (ms16 t).IsWhole := hstage0_16 (((cfgT (F := F)).slots t 16).cast nbuf0_16)
abbrev ms17 (t : Fin (cfgT (F := F)).N) : Memref sig .tc .vmem S512x64 .f32 := spec0_17.stage ((cfgT (F := F)).slots t 17)
abbrev hs17 (t : Fin (cfgT (F := F)).N) : (ms17 t).IsWhole := hstage0_17 (((cfgT (F := F)).slots t 17).cast nbuf0_17)

/-- The body at point `t`. -/
def bodyAt (t : Fin (cfgT (F := F)).N) : Prog (TpuEff nD τ sig (Elt F) Λ₀ .tc) PUnit :=
  cc0__body (grid0.coords t) (Memref.whole main_call0_c) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc20 (Memref.isWhole_whole _) sc21 (Memref.isWhole_whole _) sc22 (Memref.isWhole_whole _) sc23 (Memref.isWhole_whole _) sc24 (Memref.isWhole_whole _) sc25 (Memref.isWhole_whole _) sc26 (Memref.isWhole_whole _)

theorem defs₀_row (t : Fin (cfgT (F := F)).N) :
    defs₀ (F := F) .tc (cfgT (F := F)).body ((cfgT (F := F)).bodyArgs t ((cfgT (F := F)).slots t)) = bodyAt t := by
  unfold defs₀; rw [Defs.onTc_tc]; rfl

/-- An output's buffer holding `X` is what the obligation asks of it, by cases of where the window is idle. -/
theorem leaves_of {Λ₀ : Idealize.SL.Sem.Labels} {cfg : Cfg sig Λ₀} {c : Dev nD} (dat : Dat τ (Elt F) Unit ℕ (UR sig nD τ) ℕ cfg c) (w : Fin cfg.W) (t : Fin cfg.N) (X)
    (h1 : cfg.idle w (cfg.grid.coords t) = true → (cfg.win w).flush t = false → ∃ d, dat.before w t d = X)
    (h2 : ¬ (cfg.idle w (cfg.grid.coords t) = true ∧ (cfg.win w).flush t = false) → dat.after w t = X) :
    (owns (c : Thread nD τ) ((cfg.win w).stage (cfg.slots t w)) fullShare X : sProp 𝕄) ⊢ dat.leavesExact w t := by
  unfold Dat.leavesExact
  cases hi : cfg.idle w (cfg.grid.coords t) with
  | false => rw [h2 (by rw [hi]; simp)]
  | true =>
    cases hf : (cfg.win w).flush t with
    | true => dsimp only; rw [h2 (by rw [hf]; simp)]
    | false =>
      obtain ⟨d, hd⟩ := h1 hi hf
      dsimp only
      iintro H
      iexists d
      rw [hd]
      iexact H

/-- What the body is called with at point `t`, and what it returns. -/
def bodyPre (c : Dev nD) (t : Fin (cfgT (F := F)).N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare ((dats m 0 c).before 17 t d)))
def bodyPost (c : Dev nD) (t : Fin (cfgT (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t)

theorem leavesIn0 (c : Dev nD) (t : Fin (cfgT (F := F)).N) : (owns (c : Thread nD τ) (ms0 t) fullShare (iblk m c 0 t) : sProp 𝕄) ⊢ (dats m 0 c).leavesExact 0 t :=
  leaves_of (dats m 0 c) 0 t (iblk m c 0 t) (fun h _ => absurd h Bool.false_ne_true) (fun _ => after0_0 m c t)
theorem leavesIn1 (c : Dev nD) (t : Fin (cfgT (F := F)).N) : (owns (c : Thread nD τ) (ms1 t) fullShare (iblk m c 1 t) : sProp 𝕄) ⊢ (dats m 0 c).leavesExact 1 t :=
  leaves_of (dats m 0 c) 1 t (iblk m c 1 t) (fun h _ => absurd h Bool.false_ne_true) (fun _ => after0_1 m c t)
theorem leavesIn2 (c : Dev nD) (t : Fin (cfgT (F := F)).N) : (owns (c : Thread nD τ) (ms2 t) fullShare (iblk m c 2 t) : sProp 𝕄) ⊢ (dats m 0 c).leavesExact 2 t :=
  leaves_of (dats m 0 c) 2 t (iblk m c 2 t) (fun h _ => absurd h Bool.false_ne_true) (fun _ => after0_2 m c t)
theorem leavesIn3 (c : Dev nD) (t : Fin (cfgT (F := F)).N) : (owns (c : Thread nD τ) (ms3 t) fullShare (iblk m c 3 t) : sProp 𝕄) ⊢ (dats m 0 c).leavesExact 3 t :=
  leaves_of (dats m 0 c) 3 t (iblk m c 3 t) (fun h _ => absurd h Bool.false_ne_true) (fun _ => after0_3 m c t)
theorem leavesIn4 (c : Dev nD) (t : Fin (cfgT (F := F)).N) : (owns (c : Thread nD τ) (ms4 t) fullShare (iblk m c 4 t) : sProp 𝕄) ⊢ (dats m 0 c).leavesExact 4 t :=
  leaves_of (dats m 0 c) 4 t (iblk m c 4 t) (fun h _ => absurd h Bool.false_ne_true) (fun _ => after0_4 m c t)
theorem leavesIn5 (c : Dev nD) (t : Fin (cfgT (F := F)).N) : (owns (c : Thread nD τ) (ms5 t) fullShare (iblk m c 5 t) : sProp 𝕄) ⊢ (dats m 0 c).leavesExact 5 t :=
  leaves_of (dats m 0 c) 5 t (iblk m c 5 t) (fun h _ => absurd h Bool.false_ne_true) (fun _ => after0_5 m c t)
theorem leavesIn6 (c : Dev nD) (t : Fin (cfgT (F := F)).N) : (owns (c : Thread nD τ) (ms6 t) fullShare (iblk m c 6 t) : sProp 𝕄) ⊢ (dats m 0 c).leavesExact 6 t :=
  leaves_of (dats m 0 c) 6 t (iblk m c 6 t) (fun h _ => absurd h Bool.false_ne_true) (fun _ => after0_6 m c t)
theorem leavesIn7 (c : Dev nD) (t : Fin (cfgT (F := F)).N) : (owns (c : Thread nD τ) (ms7 t) fullShare (iblk m c 7 t) : sProp 𝕄) ⊢ (dats m 0 c).leavesExact 7 t :=
  leaves_of (dats m 0 c) 7 t (iblk m c 7 t) (fun h _ => absurd h Bool.false_ne_true) (fun _ => after0_7 m c t)
theorem leavesIn8 (c : Dev nD) (t : Fin (cfgT (F := F)).N) : (owns (c : Thread nD τ) (ms8 t) fullShare (iblk m c 8 t) : sProp 𝕄) ⊢ (dats m 0 c).leavesExact 8 t :=
  leaves_of (dats m 0 c) 8 t (iblk m c 8 t) (fun h _ => absurd h Bool.false_ne_true) (fun _ => after0_8 m c t)
theorem leavesIn9 (c : Dev nD) (t : Fin (cfgT (F := F)).N) : (owns (c : Thread nD τ) (ms9 t) fullShare (iblk m c 9 t) : sProp 𝕄) ⊢ (dats m 0 c).leavesExact 9 t :=
  leaves_of (dats m 0 c) 9 t (iblk m c 9 t) (fun h _ => absurd h Bool.false_ne_true) (fun _ => after0_9 m c t)
theorem leavesIn10 (c : Dev nD) (t : Fin (cfgT (F := F)).N) : (owns (c : Thread nD τ) (ms10 t) fullShare (iblk m c 10 t) : sProp 𝕄) ⊢ (dats m 0 c).leavesExact 10 t :=
  leaves_of (dats m 0 c) 10 t (iblk m c 10 t) (fun h _ => absurd h Bool.false_ne_true) (fun _ => after0_10 m c t)
theorem leavesIn11 (c : Dev nD) (t : Fin (cfgT (F := F)).N) : (owns (c : Thread nD τ) (ms11 t) fullShare (iblk m c 11 t) : sProp 𝕄) ⊢ (dats m 0 c).leavesExact 11 t :=
  leaves_of (dats m 0 c) 11 t (iblk m c 11 t) (fun h _ => absurd h Bool.false_ne_true) (fun _ => after0_11 m c t)
theorem leavesIn12 (c : Dev nD) (t : Fin (cfgT (F := F)).N) : (owns (c : Thread nD τ) (ms12 t) fullShare (iblk m c 12 t) : sProp 𝕄) ⊢ (dats m 0 c).leavesExact 12 t :=
  leaves_of (dats m 0 c) 12 t (iblk m c 12 t) (fun h _ => absurd h Bool.false_ne_true) (fun _ => after0_12 m c t)
theorem leavesIn13 (c : Dev nD) (t : Fin (cfgT (F := F)).N) : (owns (c : Thread nD τ) (ms13 t) fullShare (iblk m c 13 t) : sProp 𝕄) ⊢ (dats m 0 c).leavesExact 13 t :=
  leaves_of (dats m 0 c) 13 t (iblk m c 13 t) (fun h _ => absurd h Bool.false_ne_true) (fun _ => after0_13 m c t)
theorem leavesIn14 (c : Dev nD) (t : Fin (cfgT (F := F)).N) : (owns (c : Thread nD τ) (ms14 t) fullShare (iblk m c 14 t) : sProp 𝕄) ⊢ (dats m 0 c).leavesExact 14 t :=
  leaves_of (dats m 0 c) 14 t (iblk m c 14 t) (fun h _ => absurd h Bool.false_ne_true) (fun _ => after0_14 m c t)
theorem leavesIn15 (c : Dev nD) (t : Fin (cfgT (F := F)).N) : (owns (c : Thread nD τ) (ms15 t) fullShare (iblk m c 15 t) : sProp 𝕄) ⊢ (dats m 0 c).leavesExact 15 t :=
  leaves_of (dats m 0 c) 15 t (iblk m c 15 t) (fun h _ => absurd h Bool.false_ne_true) (fun _ => after0_15 m c t)

/-- The second result's buffer, left at the current block of rows at every point. -/
theorem leaves17 (c : Dev nD) (t : Fin (cfgT (F := F)).N) : (owns (c : Thread nD τ) (ms17 t) fullShare (H1 m c (kF t)) : sProp 𝕄) ⊢ (dats m 0 c).leavesExact 17 t :=
  leaves_of (dats m 0 c) 17 t (H1 m c (kF t))
    (fun hi _ => ⟨H1 m c (kF t), before17 m c _ t rfl (by have := idle17 (F := F) t; exact of_decide_eq_true (this.symm.trans hi)) _⟩)
    (fun _ => after0_17 m c t)
/-- The first result's, left at the current tile at every point but the first. -/
theorem leaves16 (c : Dev nD) (t : Fin (cfgT (F := F)).N) (h0 : t.val ≠ 0) : (owns (c : Thread nD τ) (ms16 t) fullShare (tile m c (iF t) (jF t)) : sProp 𝕄) ⊢ (dats m 0 c).leavesExact 16 t :=
  leaves_of (dats m 0 c) 16 t (tile m c (iF t) (jF t))
    (fun hi _ => ⟨tile m c (iF t) (jF t), before16 m c t (by have := idle16 (F := F) t; exact of_decide_eq_true (this.symm.trans hi)) h0 _⟩)
    (fun _ => after0_16 m c t)
/-- At the first point it is left as it was found. -/
theorem leaves16_first (c : Dev nD) (t : Fin (cfgT (F := F)).N) (h0 : t.val = 0) (d) : (owns (c : Thread nD τ) (ms16 t) fullShare ((dats m 0 c).before 16 t d) : sProp 𝕄) ⊢ (dats m 0 c).leavesExact 16 t :=
  leaves_of (dats m 0 c) 16 t _ (fun _ _ => ⟨d, rfl⟩)
    (fun h => absurd ⟨(idle16 t).trans (decide_eq_true (by rw [h0]; rfl)), (flush16 t).trans (decide_eq_false (by rw [h0]; simp))⟩ h)

theorem coords0 (t : Fin (cfgT (F := F)).N) : ((grid0.coords t) 0).val = t.val := coords_val t

theorem window_congr {S : Shape} {α : Type} (x : S.Idx → α) {off off' size : Fin S.rank → ℕ} (e : off = off') (h : ∀ a, off a + size a ≤ S.size a) (h' : ∀ a, off' a + size a ≤ S.size a) :
    window x off size h = window x off' size h' := by subst e; rfl

theorem H1_at (c : Dev nD) (t : Fin grid0.N) (h : lG t.val = 1) :
    H1at m c t (by rw [coords_val]; exact h) = H1 m c (kF t) := by
  unfold H1; congr 1; exact (sPt_kF t h).symm
theorem HR_at (c : Dev nD) (t : Fin grid0.N) (h : lG t.val = 1) :
    timesR (H1 m c (kF t)) (iblk m c 15 t) = HR m c (kF t) := by
  unfold HR; rw [sPt_kF t h]

set_option maxHeartbeats 8000000 in
theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl, PhiS_castSucc, PhiS_succ]
  conv => lhs; unfold PhiS
  iintro ⟨⟨⟨%X20, %X21, %X22, %X23, %X24, %X25, %X26, %hg, H20, H21, H22, H23, H24, H25, H26⟩, Hg, H1⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  rcases lG_cases t with h | h
  · have hl : lG ((grid0.coords t) 0).val = 0 := by rw [coords0]; exact h
    have h0 := (kF_pred t h).1
    have h0' : ((grid0.coords t) 0).val ≠ 0 := by rw [coords0]; exact h0
    rw [before17 m c _ t rfl h]
    have e13 : window X26 (k0_off13 (wI (grid0.coords t))) S512x64.size (k0_off13_inb (wG (grid0.coords t)) (wI (grid0.coords t)) (chk2 _) ((cond3_iff _).2 hl)) = HR m c (iF t) :=
      (window_congr X26 (off13 t h) _ _).trans (hg.2 _ (iF_done t h)).2
    have e14 : window X25 (k0_off14 (wJ (grid0.coords t))) S512x64.size (k0_off14_inb (wG (grid0.coords t)) (wJ (grid0.coords t)) (chk3 _) ((cond3_iff _).2 hl)) = H1c m c (jF t) :=
      (window_congr X25 (off14 t h) _ _).trans (hg.2 _ (jF_done t h)).1
    have hs := tile_spec c (grid0.coords t) (Memref.whole main_call0_c) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc20 (Memref.isWhole_whole _) sc21 (Memref.isWhole_whole _) sc22 (Memref.isWhole_whole _) sc23 (Memref.isWhole_whole _) sc24 (Memref.isWhole_whole _) sc25 (Memref.isWhole_whole _) sc26 (Memref.isWhole_whole _) fullShare.right hl h0' ((dats m 0 c).before 16 t d18) X25 X26 Set.univ (fun _ => bodyPost m c t)
    rw [e13, e14] at hs
    unfold bodyPost at hs
    rw [show (dats m 0 c).owesAt () t.succ = (dats m 0 c).owesAt () t.castSucc from rfl, PhiS_succ] at hs
    iapply hs
    isplitl [H1]; · iexact H1
    isplitl [H18]; · iexact H18
    isplitl [H25]; · iexact H25
    isplitl [H26]; · iexact H26
    iintro ⟨H1, H18, H25, H26⟩
    isplitl [H1 Hg H20 H21 H22 H23 H24 H25 H26]
    · unfold PhiS
      isplitl [H20 H21 H22 H23 H24 H25 H26]
      · iexists _; iexists _; iexists _; iexists _; iexists _; iexists _; iexists _
        isplitr; swap
        · isplitl [H20]; · iexact H20
          isplitl [H21]; · iexact H21
          isplitl [H22]; · iexact H22
          isplitl [H23]; · iexact H23
          isplitl [H24]; · iexact H24
          isplitl [H25]; · iexact H25
          iexact H26
        ipureintro
        exact hg.tile m h
      isplitl [Hg]; · iexact Hg
      iexact H1
    isplitl [Ho]; · iexact Ho
    isplitl [H2]; · iapply leavesIn0 m c t; iexact H2
    isplitl [H3]; · iapply leavesIn1 m c t; iexact H3
    isplitl [H4]; · iapply leavesIn2 m c t; iexact H4
    isplitl [H5]; · iapply leavesIn3 m c t; iexact H5
    isplitl [H6]; · iapply leavesIn4 m c t; iexact H6
    isplitl [H7]; · iapply leavesIn5 m c t; iexact H7
    isplitl [H8]; · iapply leavesIn6 m c t; iexact H8
    isplitl [H9]; · iapply leavesIn7 m c t; iexact H9
    isplitl [H10]; · iapply leavesIn8 m c t; iexact H10
    isplitl [H11]; · iapply leavesIn9 m c t; iexact H11
    isplitl [H12]; · iapply leavesIn10 m c t; iexact H12
    isplitl [H13]; · iapply leavesIn11 m c t; iexact H13
    isplitl [H14]; · iapply leavesIn12 m c t; iexact H14
    isplitl [H15]; · iapply leavesIn13 m c t; iexact H15
    isplitl [H16]; · iapply leavesIn14 m c t; iexact H16
    isplitl [H17]; · iapply leavesIn15 m c t; iexact H17
    isplitl [H18]; · iapply leaves16 m c t h0; iexact H18
    iapply leaves17 m c t; iexact H19
  · have hl : lG ((grid0.coords t) 0).val = 1 := by rw [coords0]; exact h
    by_cases h0 : t.val = 0
    · have h0' : ((grid0.coords t) 0).val = 0 := by rw [coords0]; exact h0
      have ht : t = t0 := Fin.ext h0
      have hs := first_spec c (grid0.coords t) (Memref.whole main_call0_c) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc20 (Memref.isWhole_whole _) sc21 (Memref.isWhole_whole _) sc22 (Memref.isWhole_whole _) sc23 (Memref.isWhole_whole _) sc24 (Memref.isWhole_whole _) sc25 (Memref.isWhole_whole _) sc26 (Memref.isWhole_whole _) fullShare.right hl h0' (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d19) X20 X21 X22 X23 X24 X25 X26 Set.univ (fun _ => bodyPost m c t)
      rw [show k0_pay11 (iblk m c 0 t) (iblk m c 1 t) = I20 m c from by rw [ht]; rfl] at hs
      rw [show k0_pay12 (iblk m c 0 t) (iblk m c 1 t) = I21 m c from by rw [ht]; rfl] at hs
      rw [show k0_pay8 (iblk m c 0 t) (iblk m c 1 t) (iblk m c 2 t) = I22 m c from by rw [ht]; rfl] at hs
      rw [show k0_pay9 (iblk m c 0 t) (iblk m c 1 t) (iblk m c 4 t) = I23 m c from by rw [ht]; rfl] at hs
      rw [show k0_pay1 (k0_pay6 (iblk m c 0 t) (iblk m c 1 t)) (k0_pay7 (iblk m c 0 t) (iblk m c 1 t) (iblk m c 2 t)) (iblk m c 3 t) = I24 m c from by rw [ht]; rfl] at hs
      have e1 : gatH (wG (grid0.coords t)) (wK (grid0.coords t)) (chk1 (grid0.coords t)) ((cond2_iff (grid0.coords t)).2 hl) (iblk m c 5 t) (iblk m c 6 t) (iblk m c 7 t) (iblk m c 8 t) (iblk m c 9 t) (iblk m c 10 t) (iblk m c 11 t) (iblk m c 12 t) (iblk m c 13 t) (iblk m c 14 t) (I20 m c) (I21 m c) (I22 m c) (I23 m c) (I24 m c) = H1 m c (kF t) := H1_at m c t h
      rw [e1, show shapeCast S512x64 (H1 m c (kF t)) shapeCasts_S512x64_S512x64 = H1c m c (kF t) from rfl, show timesR (H1 m c (kF t)) (iblk m c 15 t) = HR m c (kF t) from HR_at m c t h] at hs
      unfold bodyPost at hs
      rw [show (dats m 0 c).owesAt () (t : Fin (cfgT (F := F)).N).succ = (dats m 0 c).owesAt () (t : Fin (cfgT (F := F)).N).castSucc from rfl, PhiS_succ] at hs
      iapply hs
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iintro ⟨H1, H2, H3, H4, H5, H6, H7, H8, H9, H10, H11, H12, H13, H14, H15, H16, H17, H19, H20, H21, H22, H23, H24, H25, H26⟩
      isplitl [H1 Hg H20 H21 H22 H23 H24 H25 H26]
      · unfold PhiS
        isplitl [H20 H21 H22 H23 H24 H25 H26]
        · iexists _; iexists _; iexists _; iexists _; iexists _; iexists _; iexists _
          isplitr; swap
          · isplitl [H20]; · iexact H20
            isplitl [H21]; · iexact H21
            isplitl [H22]; · iexact H22
            isplitl [H23]; · iexact H23
            isplitl [H24]; · iexact H24
            isplitl [H25]; · iexact H25
            iexact H26
          ipureintro
          exact hg.gat m h
        isplitl [Hg]; · iexact Hg
        iexact H1
      isplitl [Ho]; · iexact Ho
      isplitl [H2]; · iapply leavesIn0 m c t; iexact H2
      isplitl [H3]; · iapply leavesIn1 m c t; iexact H3
      isplitl [H4]; · iapply leavesIn2 m c t; iexact H4
      isplitl [H5]; · iapply leavesIn3 m c t; iexact H5
      isplitl [H6]; · iapply leavesIn4 m c t; iexact H6
      isplitl [H7]; · iapply leavesIn5 m c t; iexact H7
      isplitl [H8]; · iapply leavesIn6 m c t; iexact H8
      isplitl [H9]; · iapply leavesIn7 m c t; iexact H9
      isplitl [H10]; · iapply leavesIn8 m c t; iexact H10
      isplitl [H11]; · iapply leavesIn9 m c t; iexact H11
      isplitl [H12]; · iapply leavesIn10 m c t; iexact H12
      isplitl [H13]; · iapply leavesIn11 m c t; iexact H13
      isplitl [H14]; · iapply leavesIn12 m c t; iexact H14
      isplitl [H15]; · iapply leavesIn13 m c t; iexact H15
      isplitl [H16]; · iapply leavesIn14 m c t; iexact H16
      isplitl [H17]; · iapply leavesIn15 m c t; iexact H17
      isplitl [H18]; · iapply leaves16_first m c t h0; iexact H18
      iapply leaves17 m c t; iexact H19
    · have h0' : ((grid0.coords t) 0).val ≠ 0 := by rw [coords0]; exact h0
      obtain ⟨rfl, rfl, rfl, rfl, rfl⟩ := hg.1 h0
      rw [before16 m c t h h0]
      have hs := block_spec c (grid0.coords t) (Memref.whole main_call0_c) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc20 (Memref.isWhole_whole _) sc21 (Memref.isWhole_whole _) sc22 (Memref.isWhole_whole _) sc23 (Memref.isWhole_whole _) sc24 (Memref.isWhole_whole _) sc25 (Memref.isWhole_whole _) sc26 (Memref.isWhole_whole _) fullShare.right hl h0' (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d19) (I20 m c) (I21 m c) (I22 m c) (I23 m c) (I24 m c) X25 X26 Set.univ (fun _ => bodyPost m c t)
      have e1 : gatH (wG (grid0.coords t)) (wK (grid0.coords t)) (chk1 (grid0.coords t)) ((cond2_iff (grid0.coords t)).2 hl) (iblk m c 5 t) (iblk m c 6 t) (iblk m c 7 t) (iblk m c 8 t) (iblk m c 9 t) (iblk m c 10 t) (iblk m c 11 t) (iblk m c 12 t) (iblk m c 13 t) (iblk m c 14 t) (I20 m c) (I21 m c) (I22 m c) (I23 m c) (I24 m c) = H1 m c (kF t) := H1_at m c t h
      rw [e1, show shapeCast S512x64 (H1 m c (kF t)) shapeCasts_S512x64_S512x64 = H1c m c (kF t) from rfl, show timesR (H1 m c (kF t)) (iblk m c 15 t) = HR m c (kF t) from HR_at m c t h] at hs
      unfold bodyPost at hs
      rw [show (dats m 0 c).owesAt () (t : Fin (cfgT (F := F)).N).succ = (dats m 0 c).owesAt () (t : Fin (cfgT (F := F)).N).castSucc from rfl, PhiS_succ] at hs
      iapply hs
      isplitl [H1]; · iexact H1
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      iintro ⟨H1, H7, H8, H9, H10, H11, H12, H13, H14, H15, H16, H17, H19, H20, H21, H22, H23, H24, H25, H26⟩
      isplitl [H1 Hg H20 H21 H22 H23 H24 H25 H26]
      · unfold PhiS
        isplitl [H20 H21 H22 H23 H24 H25 H26]
        · iexists _; iexists _; iexists _; iexists _; iexists _; iexists _; iexists _
          isplitr; swap
          · isplitl [H20]; · iexact H20
            isplitl [H21]; · iexact H21
            isplitl [H22]; · iexact H22
            isplitl [H23]; · iexact H23
            isplitl [H24]; · iexact H24
            isplitl [H25]; · iexact H25
            iexact H26
          ipureintro
          exact hg.gat m h
        isplitl [Hg]; · iexact Hg
        iexact H1
      isplitl [Ho]; · iexact Ho
      isplitl [H2]; · iapply leavesIn0 m c t; iexact H2
      isplitl [H3]; · iapply leavesIn1 m c t; iexact H3
      isplitl [H4]; · iapply leavesIn2 m c t; iexact H4
      isplitl [H5]; · iapply leavesIn3 m c t; iexact H5
      isplitl [H6]; · iapply leavesIn4 m c t; iexact H6
      isplitl [H7]; · iapply leavesIn5 m c t; iexact H7
      isplitl [H8]; · iapply leavesIn6 m c t; iexact H8
      isplitl [H9]; · iapply leavesIn7 m c t; iexact H9
      isplitl [H10]; · iapply leavesIn8 m c t; iexact H10
      isplitl [H11]; · iapply leavesIn9 m c t; iexact H11
      isplitl [H12]; · iapply leavesIn10 m c t; iexact H12
      isplitl [H13]; · iapply leavesIn11 m c t; iexact H13
      isplitl [H14]; · iapply leavesIn12 m c t; iexact H14
      isplitl [H15]; · iapply leavesIn13 m c t; iexact H15
      isplitl [H16]; · iapply leavesIn14 m c t; iexact H16
      isplitl [H17]; · iapply leavesIn15 m c t; iexact H17
      isplitl [H18]; · iapply leaves16 m c t h0; iexact H18
      iapply leaves17 m c t; iexact H19

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Gen
end
-- ==== Proof.Frame.lean ====
module

public import proofs.«01_k».proof.Proof.Launch
public import proofs.«01_k».proof.Proof.Gen.KernelIdeal.Skeleton
public import proofs.«01_k».proof.Proof.Sound
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

theorem PhiA0_eq (c : Dev nD) :
    (Pipeline.ΦA spec0 c : sProp 𝕄)
      = iprop(iprop((∃ d, owns (c : Thread nD τ) sc20 fullShare d) ∗ (∃ d, owns (c : Thread nD τ) sc21 fullShare d) ∗ (∃ d, owns (c : Thread nD τ) sc22 fullShare d) ∗ (∃ d, owns (c : Thread nD τ) sc23 fullShare d) ∗ (∃ d, owns (c : Thread nD τ) sc24 fullShare d) ∗ (∃ d, owns (c : Thread nD τ) sc25 fullShare d) ∗ (∃ d, owns (c : Thread nD τ) sc26 fullShare d)) ∗ (∃ r, prngReg c r)) := by
  unfold Pipeline.ΦA; rw [scopedRest0_eq]; simp only [sc20, sc21, sc22, sc23, sc24, sc25, sc26, owns_whole]; try rfl

theorem PhiT0_eq (c : Dev nD) :
    (Pipeline.ΦT pre0 pfT c : sProp 𝕄) = owns (c : Thread nD τ) (Memref.whole main_call0_c) fullShare.right (T : Vec F S4x72 .i32) := by
  unfold Pipeline.ΦT Pipeline.prefHeld
  rw [show (Finset.univ : Finset (Fin 1)) = {(0 : Fin 1)} from by decide, bigSep_singleton, owns_whole]; rfl

theorem Good_zero (c : Dev nD) (X20 : Vec F S4096x65 .bf16) (X21 : Vec F S4096x65 .bf16) (X22 : Vec F S4096x4 .bf16) (X23 : Vec F S16x4096 .bf16) (X24 : Vec F S4096x2 .f32) (X25 : Vec F S4096x64 .f32) (X26 : Vec F S4096x64 .f32) : Good m c 0 X20 X21 X22 X23 X24 X25 X26 :=
  ⟨fun h => absurd rfl h, fun k hk => absurd hk (Nat.not_lt_zero _)⟩

theorem hin (c : Dev nD) : iprop(Pipeline.ΦA spec0 c ∗ Pipeline.ΦT pre0 pfT c) ⊢ (dats m 0 c).Φ 0 := by
  rw [show (dats m 0 c).Φ 0 = PhiS m c 0 from rfl, PhiA0_eq, PhiT0_eq]
  unfold PhiS
  iintro ⟨⟨⟨⟨%X20, H20⟩, ⟨%X21, H21⟩, ⟨%X22, H22⟩, ⟨%X23, H23⟩, ⟨%X24, H24⟩, ⟨%X25, H25⟩, ⟨%X26, H26⟩⟩, Hg⟩, H1⟩
  isplitl [H20 H21 H22 H23 H24 H25 H26]
  · iexists X20; iexists X21; iexists X22; iexists X23; iexists X24; iexists X25; iexists X26
    isplitr; swap
    · isplitl [H20]; · iexact H20
      isplitl [H21]; · iexact H21
      isplitl [H22]; · iexact H22
      isplitl [H23]; · iexact H23
      isplitl [H24]; · iexact H24
      isplitl [H25]; · iexact H25
      iexact H26
    ipureintro
    exact Good_zero m c _ _ _ _ _ _ _
  isplitl [Hg]; · iexact Hg
  iexact H1

theorem hout (c : Dev nD) : (dats m 0 c).Φ (Fin.last (cfgT (F := F)).N) ⊢ Pipeline.ΦA spec0 c := by
  rw [show (dats m 0 c).Φ (Fin.last (cfgT (F := F)).N) = PhiS m c (cfgT (F := F)).N from rfl, PhiA0_eq]
  unfold PhiS
  iintro ⟨⟨%X20, %X21, %X22, %X23, %X24, %X25, %X26, %hg, H20, H21, H22, H23, H24, H25, H26⟩, Hg, H1⟩
  isplitr [Hg]
  · isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26
  iexact Hg

set_option backward.isDefEq.respectTransparency.types false in
/-- The launch: every execution ends, every window's array at its last contents, every other buffer as the region
    found it, every counter at zero. -/
theorem run_main : θ_run defs (onTc (τ := τ) (main (F := F))) ⟨m, fun _ => 0, ρ⟩
    (fun r => Pipeline.FramePost (fun _ : Fin 1 => cfgT (F := F)) (dats m) 0 (V m) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

set_option backward.isDefEq.respectTransparency.types false in
/-- The frame: the argument arrays end as they began. -/
theorem args_kept {r : PUnit × MemSt nD τ sig (Elt F)} (h : Pipeline.FramePost (fun _ : Fin 1 => cfgT (F := F)) (dats m) 0 (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) :=
  ⟨((h c).2 main_arg0 (Pipeline.mem_restRefs_of main_arg0 (by decide) (by decide : ∀ w : Fin 18, (spec0 w).arr.view.ref ≠ main_arg0))).trans (V_main_arg0 m c),
    ((h c).2 main_arg1 (Pipeline.mem_restRefs_of main_arg1 (by decide) (by decide : ∀ w : Fin 18, (spec0 w).arr.view.ref ≠ main_arg1))).trans (V_main_arg1 m c),
    ((h c).2 main_arg2 (Pipeline.mem_restRefs_of main_arg2 (by decide) (by decide : ∀ w : Fin 18, (spec0 w).arr.view.ref ≠ main_arg2))).trans (V_main_arg2 m c),
    ((h c).2 main_arg3 (Pipeline.mem_restRefs_of main_arg3 (by decide) (by decide : ∀ w : Fin 18, (spec0 w).arr.view.ref ≠ main_arg3))).trans (V_main_arg3 m c),
    ((h c).2 main_arg4 (Pipeline.mem_restRefs_of main_arg4 (by decide) (by decide : ∀ w : Fin 18, (spec0 w).arr.view.ref ≠ main_arg4))).trans (V_main_arg4 m c),
    ((h c).2 main_arg5 (Pipeline.mem_restRefs_of main_arg5 (by decide) (by decide : ∀ w : Fin 18, (spec0 w).arr.view.ref ≠ main_arg5))).trans (V_main_arg5 m c),
    ((h c).2 main_arg6 (Pipeline.mem_restRefs_of main_arg6 (by decide) (by decide : ∀ w : Fin 18, (spec0 w).arr.view.ref ≠ main_arg6))).trans (V_main_arg6 m c),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 12).trans (((dats m 0 c).arrAt_in 12 rfl _).trans ((A_eq m c 12).trans (V_main_arg10 m c))),
    ((h c).1 13).trans (((dats m 0 c).arrAt_in 13 rfl _).trans ((A_eq m c 13).trans (V_main_arg11 m c))),
    ((h c).1 14).trans (((dats m 0 c).arrAt_in 14 rfl _).trans ((A_eq m c 14).trans (V_main_arg12 m c))),
    ((h c).1 15).trans (((dats m 0 c).arrAt_in 15 rfl _).trans ((A_eq m c 15).trans (V_main_arg13 m c)))⟩

theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) :=
  (θ_run defs _ _).mono (fun _ h => ⟨args_kept m h.1, h.2⟩) (run_main m ρ)

end Cert.KernelIdeal.Gen
end
-- ==== Proof.Bits.Frame.lean ====
module

public import proofs.«01_k».proof.Proof.Bits.Launch
public import proofs.«01_k».proof.Proof.Gen.Kernel.Skeleton
public import proofs.«01_k».proof.Proof.Bits.Sound
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

theorem PhiA0_eq (c : Dev nD) :
    (Pipeline.ΦA spec0 c : sProp 𝕄)
      = iprop(iprop((∃ d, owns (c : Thread nD τ) sc20 fullShare d) ∗ (∃ d, owns (c : Thread nD τ) sc21 fullShare d) ∗ (∃ d, owns (c : Thread nD τ) sc22 fullShare d) ∗ (∃ d, owns (c : Thread nD τ) sc23 fullShare d) ∗ (∃ d, owns (c : Thread nD τ) sc24 fullShare d) ∗ (∃ d, owns (c : Thread nD τ) sc25 fullShare d) ∗ (∃ d, owns (c : Thread nD τ) sc26 fullShare d)) ∗ (∃ r, prngReg c r)) := by
  unfold Pipeline.ΦA; rw [scopedRest0_eq]; simp only [sc20, sc21, sc22, sc23, sc24, sc25, sc26, owns_whole]; try rfl

theorem PhiT0_eq (c : Dev nD) :
    (Pipeline.ΦT pre0 pfT c : sProp 𝕄) = owns (c : Thread nD τ) (Memref.whole main_call0_c) fullShare.right (T : Vec F S4x72 .i32) := by
  unfold Pipeline.ΦT Pipeline.prefHeld
  rw [show (Finset.univ : Finset (Fin 1)) = {(0 : Fin 1)} from by decide, bigSep_singleton, owns_whole]; rfl

theorem Good_zero (c : Dev nD) (X20 : Vec F S4096x65 .bf16) (X21 : Vec F S4096x65 .bf16) (X22 : Vec F S4096x4 .bf16) (X23 : Vec F S16x4096 .bf16) (X24 : Vec F S4096x2 .f32) (X25 : Vec F S4096x64 .f32) (X26 : Vec F S4096x64 .f32) : Good m c 0 X20 X21 X22 X23 X24 X25 X26 :=
  ⟨fun h => absurd rfl h, fun k hk => absurd hk (Nat.not_lt_zero _)⟩

theorem hin (c : Dev nD) : iprop(Pipeline.ΦA spec0 c ∗ Pipeline.ΦT pre0 pfT c) ⊢ (dats m 0 c).Φ 0 := by
  rw [show (dats m 0 c).Φ 0 = PhiS m c 0 from rfl, PhiA0_eq, PhiT0_eq]
  unfold PhiS
  iintro ⟨⟨⟨⟨%X20, H20⟩, ⟨%X21, H21⟩, ⟨%X22, H22⟩, ⟨%X23, H23⟩, ⟨%X24, H24⟩, ⟨%X25, H25⟩, ⟨%X26, H26⟩⟩, Hg⟩, H1⟩
  isplitl [H20 H21 H22 H23 H24 H25 H26]
  · iexists X20; iexists X21; iexists X22; iexists X23; iexists X24; iexists X25; iexists X26
    isplitr; swap
    · isplitl [H20]; · iexact H20
      isplitl [H21]; · iexact H21
      isplitl [H22]; · iexact H22
      isplitl [H23]; · iexact H23
      isplitl [H24]; · iexact H24
      isplitl [H25]; · iexact H25
      iexact H26
    ipureintro
    exact Good_zero m c _ _ _ _ _ _ _
  isplitl [Hg]; · iexact Hg
  iexact H1

theorem hout (c : Dev nD) : (dats m 0 c).Φ (Fin.last (cfgT (F := F)).N) ⊢ Pipeline.ΦA spec0 c := by
  rw [show (dats m 0 c).Φ (Fin.last (cfgT (F := F)).N) = PhiS m c (cfgT (F := F)).N from rfl, PhiA0_eq]
  unfold PhiS
  iintro ⟨⟨%X20, %X21, %X22, %X23, %X24, %X25, %X26, %hg, H20, H21, H22, H23, H24, H25, H26⟩, Hg, H1⟩
  isplitr [Hg]
  · isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26
  iexact Hg

set_option backward.isDefEq.respectTransparency.types false in
/-- The launch: every execution ends, every window's array at its last contents, every other buffer as the region
    found it, every counter at zero. -/
theorem run_main : θ_run defs (onTc (τ := τ) (main (F := F))) ⟨m, fun _ => 0, ρ⟩
    (fun r => Pipeline.FramePost (fun _ : Fin 1 => cfgT (F := F)) (dats m) 0 (V m) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

set_option backward.isDefEq.respectTransparency.types false in
/-- The frame: the argument arrays end as they began. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) :=
  (θ_run defs _ _).mono (fun _ h => ⟨fun c => ⟨((h.1 c).2 main_arg0 (Pipeline.mem_restRefs_of main_arg0 (by decide) (by decide : ∀ w : Fin 18, (spec0 w).arr.view.ref ≠ main_arg0))).trans (V_main_arg0 m c),
    ((h.1 c).2 main_arg1 (Pipeline.mem_restRefs_of main_arg1 (by decide) (by decide : ∀ w : Fin 18, (spec0 w).arr.view.ref ≠ main_arg1))).trans (V_main_arg1 m c),
    ((h.1 c).2 main_arg2 (Pipeline.mem_restRefs_of main_arg2 (by decide) (by decide : ∀ w : Fin 18, (spec0 w).arr.view.ref ≠ main_arg2))).trans (V_main_arg2 m c),
    ((h.1 c).2 main_arg3 (Pipeline.mem_restRefs_of main_arg3 (by decide) (by decide : ∀ w : Fin 18, (spec0 w).arr.view.ref ≠ main_arg3))).trans (V_main_arg3 m c),
    ((h.1 c).2 main_arg4 (Pipeline.mem_restRefs_of main_arg4 (by decide) (by decide : ∀ w : Fin 18, (spec0 w).arr.view.ref ≠ main_arg4))).trans (V_main_arg4 m c),
    ((h.1 c).2 main_arg5 (Pipeline.mem_restRefs_of main_arg5 (by decide) (by decide : ∀ w : Fin 18, (spec0 w).arr.view.ref ≠ main_arg5))).trans (V_main_arg5 m c),
    ((h.1 c).2 main_arg6 (Pipeline.mem_restRefs_of main_arg6 (by decide) (by decide : ∀ w : Fin 18, (spec0 w).arr.view.ref ≠ main_arg6))).trans (V_main_arg6 m c),
    ((h.1 c).1 7).trans (((dats m 0 c).arrAt_in 7 rfl _).trans ((A_eq m c 7).trans (V_main_arg7 m c))),
    ((h.1 c).1 8).trans (((dats m 0 c).arrAt_in 8 rfl _).trans ((A_eq m c 8).trans (V_main_arg8 m c))),
    ((h.1 c).1 9).trans (((dats m 0 c).arrAt_in 9 rfl _).trans ((A_eq m c 9).trans (V_main_arg9 m c))),
    ((h.1 c).1 12).trans (((dats m 0 c).arrAt_in 12 rfl _).trans ((A_eq m c 12).trans (V_main_arg10 m c))),
    ((h.1 c).1 13).trans (((dats m 0 c).arrAt_in 13 rfl _).trans ((A_eq m c 13).trans (V_main_arg11 m c))),
    ((h.1 c).1 14).trans (((dats m 0 c).arrAt_in 14 rfl _).trans ((A_eq m c 14).trans (V_main_arg12 m c))),
    ((h.1 c).1 15).trans (((dats m 0 c).arrAt_in 15 rfl _).trans ((A_eq m c 15).trans (V_main_arg13 m c)))⟩, h.2⟩) (run_main m ρ)

end Cert.Kernel.Gen
end
-- ==== Proof.Math.lean ====
module

public import Idealize.ShloMosaic.Lib.Pointwise

@[expose] public section

noncomputable section

/-! # Attention weights over the reals -/

namespace Cert.Gat

open Idealize.ShloMosaic

theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The slope of the leaky rectifier below zero, as its word reads. -/
def slope : ℝ := 13421773 / 67108864
theorem slope_bits : Ideal.ofBits .f32 0x3E4CCCCD#32 = (slope : EReal) := by
  simp [Ideal.ofBits, Ideal.ieee, slope]
  norm_num
  rw [← EReal.coe_mul]
  norm_num

def leaky (z : ℝ) : ℝ := if 0 ≤ z then z else slope * z

theorem max_exp (z : ℝ) : max (Real.exp z) (Real.exp (slope * z)) = Real.exp (leaky z) := by
  unfold leaky
  split
  · rename_i h
    exact max_eq_left (Real.exp_le_exp.2 (by unfold slope; linarith))
  · rename_i h
    exact max_eq_right (Real.exp_le_exp.2 (by unfold slope; linarith))

theorem coe_max (x y : ℝ) : max (x : EReal) (y : EReal) = ((max x y : ℝ) : EReal) := (EReal.coe_strictMono.monotone.map_max).symm

theorem max_exp_mul (x y : ℝ) :
    max (Ideal.exp (x : EReal) * Ideal.exp (y : EReal)) (Ideal.exp ((slope * x : ℝ) : EReal) * Ideal.exp ((slope * y : ℝ) : EReal))
      = ((Real.exp (leaky (x + y)) : ℝ) : EReal) := by
  rw [← max_exp, Ideal.exp_coe, Ideal.exp_coe, Ideal.exp_coe, Ideal.exp_coe, ← EReal.coe_mul, ← EReal.coe_mul, ← Real.exp_add, ← Real.exp_add, mul_add, coe_max]

theorem max_exp_add (x y : ℝ) :
    max (Ideal.exp ((x : EReal) + (y : EReal))) (Ideal.exp (((slope * x : ℝ) : EReal) + ((slope * y : ℝ) : EReal)))
      = ((Real.exp (leaky (x + y)) : ℝ) : EReal) := by
  rw [← max_exp, ← EReal.coe_add, ← EReal.coe_add, Ideal.exp_coe, Ideal.exp_coe, mul_add, coe_max]

section
variable {n : ℕ} (i : Fin n) (a : Fin n → ℝ) (f : ℝ) (g : Fin n → ℝ)

/-- The weight of neighbour `j`: its row's own entry counts whatever the graph says. -/
def wt (j : Fin n) : ℝ := a j * Real.exp (leaky (f + g j)) + if j = i then (1 - a i) * Real.exp (leaky (f + g i)) else 0

/-- The weighted mean of `x`. -/
def att (x : Fin n → ℝ) : ℝ := (∑ j, wt i a f g j * x j) / ∑ j, wt i a f g j

theorem sum_wt (x : Fin n → ℝ) :
    ∑ j, wt i a f g j * x j = (∑ j, a j * Real.exp (leaky (f + g j)) * x j) + (1 - a i) * Real.exp (leaky (f + g i)) * x i := by
  simp only [wt, add_mul, Finset.sum_add_distrib, ite_mul, zero_mul, Finset.sum_ite_eq', Finset.mem_univ, if_true]

variable (ha : ∀ j, a j = 0 ∨ a j = 1)
include ha

theorem wt_nonneg (j : Fin n) : 0 ≤ wt i a f g j := by
  unfold wt
  have h := Real.exp_pos (leaky (f + g j))
  have h' := Real.exp_pos (leaky (f + g i))
  rcases ha j with h1 | h1 <;> rcases ha i with h2 | h2 <;> rw [h1, h2] <;> split <;> nlinarith
theorem wt_self : wt i a f g i = Real.exp (leaky (f + g i)) := by
  unfold wt; rw [if_pos rfl]; ring
theorem sum_wt_pos : 0 < ∑ j, wt i a f g j := by
  refine Finset.sum_pos' (fun j _ => wt_nonneg i a f g ha j) ⟨i, Finset.mem_univ _, ?_⟩
  rw [wt_self i a f g ha]; exact Real.exp_pos _

/-- What the tabulated exponentials with the diagonal put right divide to. -/
theorem att_tab (x : Fin n → ℝ) :
    Ideal.div (∑ j, (a j : EReal) * ((Real.exp (leaky (f + g j)) : ℝ) : EReal) * (x j : EReal) + (1 - (a i : EReal)) * ((Real.exp (leaky (f + g i)) : ℝ) : EReal) * (x i : EReal))
        (∑ j, (a j : EReal) * ((Real.exp (leaky (f + g j)) : ℝ) : EReal) * 1 + (1 - (a i : EReal)) * ((Real.exp (leaky (f + g i)) : ℝ) : EReal) * 1)
      = ((att i a f g x : ℝ) : EReal) := by
  have h1 : (1 : EReal) - (a i : EReal) = ((1 - a i : ℝ) : EReal) := by rw [EReal.coe_sub]; rfl
  have hs := sum_wt i a f g fun _ => 1
  simp only [mul_one] at hs
  have hp := sum_wt_pos i a f g ha
  simp only [h1, mul_one, ← EReal.coe_mul, coe_sum, ← EReal.coe_add, ← sum_wt, ← hs]
  rw [Ideal.div_coe hp.ne', ← EReal.coe_mul]
  congr 1
  unfold att
  ring

theorem exp_masked (M : ℝ) (j : Fin n) :
    Ideal.exp (((leaky (f + g j) : ℝ) : EReal) + (if (if j = i then 1 else (a j : EReal)) = 0 then ⊥ else 0) - (M : EReal))
      = ((wt i a f g j * Real.exp (-M) : ℝ) : EReal) := by
  by_cases hj : j = i
  · subst hj
    rw [if_pos rfl, if_neg one_ne_zero, add_zero, ← EReal.coe_sub, Ideal.exp_coe, wt_self j a f g ha, ← Real.exp_add, sub_eq_add_neg]
  · rw [if_neg hj]
    unfold wt
    rw [if_neg hj]
    rcases ha j with h | h
    · rw [h]
      simp
    · rw [h, if_neg (by simp), add_zero, ← EReal.coe_sub, Ideal.exp_coe, one_mul, add_zero, ← Real.exp_add, sub_eq_add_neg]

/-- What the softmax of the masked scores averages to, whatever is subtracted from a row. -/
theorem att_soft (M : ℝ) (x : Fin n → ℝ) (e : Fin n → EReal)
    (he : ∀ j, e j = Ideal.exp (((leaky (f + g j) : ℝ) : EReal) + (if (if j = i then 1 else (a j : EReal)) = 0 then ⊥ else 0) - (M : EReal))) :
    ∑ j, Ideal.div (e j) (∑ k, e k) * (x j : EReal) = ((att i a f g x : ℝ) : EReal) := by
  have he' : ∀ j, e j = ((wt i a f g j * Real.exp (-M) : ℝ) : EReal) := fun j => (he j).trans (exp_masked i a f g ha M j)
  have hp := sum_wt_pos i a f g ha
  have hM := Real.exp_pos (-M)
  simp only [he', coe_sum, ← Finset.sum_mul]
  simp only [Ideal.div_coe (mul_pos hp hM).ne', ← EReal.coe_mul, coe_sum]
  congr 1
  unfold att
  rw [Finset.sum_div]
  refine Finset.sum_congr rfl fun j _ => ?_
  field_simp

end

theorem fold_real {ι : Type} (s : Finset ι) (f : ι → EReal) (h : ∀ i ∈ s, f i ≠ ⊤) (h' : ∃ i ∈ s, f i ≠ ⊥) : ∃ M : ℝ, max ⊥ (s.fold max ⊥ f) = (M : EReal) := by
  have e : s.fold max ⊥ f = s.sup f := rfl
  rw [e, max_eq_right bot_le]
  obtain ⟨i, hi, hb⟩ := h'
  have h1 : s.sup f ≠ ⊤ := ((Finset.sup_lt_iff bot_lt_top).2 fun i hi => lt_top_iff_ne_top.2 (h i hi)).ne
  have h2 : s.sup f ≠ ⊥ := fun hn => hb (le_bot_iff.1 (hn ▸ Finset.le_sup (f := f) hi))
  exact ⟨(s.sup f).toReal, (EReal.coe_toReal h1 h2).symm⟩

def lo (d : Fin 64) : Fin 128 := ⟨d.val, by omega⟩
def hi (d : Fin 64) : Fin 128 := ⟨64 + d.val, by omega⟩
theorem sum128 (f : Fin 128 → EReal) : ∑ q, f q = ∑ d, f (lo d) + ∑ d, f (hi d) := Fin.sum_univ_add (a := 64) (b := 64) (f : Fin (64 + 64) → EReal)

theorem sel_diag {n : ℕ} (i x : Fin n) (a b : EReal) (hn : n ≤ 2 ^ 32) :
    Scalar.select (IntOp.cmpi CmpIPredicate.eq (BitVec.ofNat 32 i.val) (BitVec.ofNat 32 x.val)) a b = if x = i then a else b := by
  have hb : (BitVec.ofNat 32 i.val = BitVec.ofNat 32 x.val) ↔ x = i := by
    constructor
    · intro h
      have := congrArg BitVec.toNat h
      simp only [BitVec.toNat_ofNat] at this
      rw [Nat.mod_eq_of_lt (by omega), Nat.mod_eq_of_lt (by omega)] at this
      exact Fin.ext this.symm
    · rintro rfl; rfl
  by_cases h : x = i
  · subst h; simp [Scalar.select, IntOp.cmpi]
  · rw [if_neg h]
    have : ¬ (BitVec.ofNat 32 i.val = BitVec.ofNat 32 x.val) := fun e => h (hb.1 e)
    have hf : (BitVec.ofNat 32 i.val == BitVec.ofNat 32 x.val) = false := by simpa using this
    simp [Scalar.select, IntOp.cmpi, hf]

theorem sum_diag {n : ℕ} (i : Fin n) (f : Fin n → EReal) (hn : n ≤ 2 ^ 32) :
    ∑ x : Fin n, Scalar.select (IntOp.cmpi CmpIPredicate.eq (BitVec.ofNat 32 i.val) (BitVec.ofNat 32 x.val)) (f x) 0 = f i := by
  simp only [sel_diag i _ _ _ hn, Finset.sum_ite_eq', Finset.mem_univ, if_true]

theorem leaky_coe (z : ℝ) : (if 0 ≤ (z : EReal) then (z : EReal) else (slope : EReal) * (z : EReal)) = ((leaky z : ℝ) : EReal) := by
  unfold leaky
  by_cases h : 0 ≤ z
  · rw [if_pos h, if_pos (EReal.coe_nonneg.2 h)]
  · rw [if_neg h, if_neg fun h' => h (EReal.coe_nonneg.1 h'), EReal.coe_mul]

theorem bits_bot : Ideal.ofBits .f32 0xFF800000#32 = ⊥ := by simp [Ideal.ofBits, Ideal.ieee]

/-- A row's maximum is a number when none of the row is plus infinity and some of it is a number. -/
theorem reduce_real {s t u : Shape} {axes : List (Fin s.rank)} (x : s.Idx → EReal) (init : u.Idx → EReal) (h : s.ReducesTo axes t) (hu : 0 < u.numel) (j : t.Idx)
    (hi : init (Shape.Idx.first hu) = ⊥) (ht : ∀ i, x i ≠ ⊤) (i : s.Idx) (hd : h.drop i = j) (hb : x i ≠ ⊥) :
    ∃ M : ℝ, max ⊥ (Host.reduce (FloatOps.maximumf (F := Ideal) (φ := .f32)) x init h hu j) = (M : EReal) := by
  rw [Host.reduce_eq_fold, hi]
  exact fold_real _ _ (fun i _ => ht i) ⟨i, Finset.mem_filter.2 ⟨Finset.mem_univ _, hd⟩, hb⟩

end Cert.Gat
end
-- ==== Proof.Spec.lean ====
module

public import proofs.«01_k».proof.Proof.Math
public import proofs.«01_k».proof.KernelIdeal

@[expose] public section

noncomputable section

/-! # The step, of its arguments -/

namespace Cert.Gat

open Idealize.ShloMosaic Cert.KernelIdeal

/-- The fourteen arguments. -/
structure Args where
  X : FVec Ideal S1x4096x128 .f32
  A : FVec Ideal S1x4096x4096 .f32
  H : FVec Ideal S1x4096x64 .f32
  K : FVec Ideal S128x2x64 .f32
  S : FVec Ideal S64x2x1 .f32
  N : FVec Ideal S64x2x1 .f32
  B : FVec Ideal S128 .f32
  bu : FVec Ideal S4096x1 .f32
  br : FVec Ideal S4096x1 .f32
  bc : FVec Ideal S4096x1 .f32
  Wu : FVec Ideal S192x64 .f32
  Wr : FVec Ideal S192x64 .f32
  Wc : FVec Ideal S192x64 .f32
  R : FVec Ideal S64x64 .f32

/-- The adjacency is a graph's, and what the softmax reads is finite. -/
structure Args.Ok (a : Args) : Prop where
  hA : ∀ i, a.A i = 0 ∨ a.A i = 1
  hX : ∀ i, ∃ r : ℝ, a.X i = r
  hK : ∀ i, ∃ r : ℝ, a.K i = r
  hS : ∀ i, ∃ r : ℝ, a.S i = r
  hN : ∀ i, ∃ r : ℝ, a.N i = r

namespace Args
variable (a : Args)

def adj (i j : Fin 4096) : ℝ := (a.A (ix3 0 i j)).toReal
def xk (h : Fin 2) (n : Fin 4096) (d : Fin 64) : ℝ := ∑ f : Fin 128, (a.X (ix3 0 n f)).toReal * (a.K (ix3 f h d)).toReal
def fs (h : Fin 2) (n : Fin 4096) : ℝ := ∑ d, a.xk h n d * (a.S (ix3 d h 0)).toReal
def fn (h : Fin 2) (n : Fin 4096) : ℝ := ∑ d, a.xk h n d * (a.N (ix3 d h 0)).toReal

/-- A head's convolution, before the bias. -/
def conv (h : Fin 2) (n : Fin 4096) (d : Fin 64) : ℝ := att n (a.adj n) (a.fs h n) (a.fn h) fun j => a.xk h j d
def c0 (n : Fin 4096) (d : Fin 64) : EReal := (a.conv 0 n d : EReal) + a.B (ix1 (lo d))
def c1 (n : Fin 4096) (d : Fin 64) : EReal := (a.conv 1 n d : EReal) + a.B (ix1 (hi d))

/-- A gate before its nonlinearity, the state it reads being `s`. -/
def lin (s : Fin 4096 → Fin 64 → EReal) (b : FVec Ideal S4096x1 .f32) (W : FVec Ideal S192x64 .f32) (n : Fin 4096) (q : Fin 64) : EReal :=
  b (ix2 n 0) + (∑ d : Fin 64, a.c0 n d * W (ix2 ⟨d.val, by omega⟩ q) + ∑ d : Fin 64, a.c1 n d * W (ix2 ⟨64 + d.val, by omega⟩ q) + ∑ d : Fin 64, s n d * W (ix2 ⟨128 + d.val, by omega⟩ q))
def old (n : Fin 4096) (d : Fin 64) : EReal := a.H (ix3 0 n d)
def u (n : Fin 4096) (q : Fin 64) : EReal := Ideal.logistic (a.lin a.old a.bu a.Wu n q)
def r (n : Fin 4096) (q : Fin 64) : EReal := Ideal.logistic (a.lin a.old a.br a.Wr n q)
/-- The new state. -/
def new (n : Fin 4096) (q : Fin 64) : EReal :=
  a.u n q * a.old n q + (1 - a.u n q) * Ideal.tanh (a.lin (fun n d => a.r n d * a.old n d) a.bc a.Wc n q)
/-- The bilinear form. -/
def prod (i j : Fin 4096) : EReal := ∑ e : Fin 64, (∑ d : Fin 64, a.new i d * a.R (ix2 d e)) * a.new j e

variable {a} (o : a.Ok)
include o

theorem adj_zo (i j : Fin 4096) : a.adj i j = 0 ∨ a.adj i j = 1 := by
  unfold adj
  rcases o.hA (ix3 0 i j) with h | h <;> rw [h] <;> simp
theorem A_eq (i j : Fin 4096) : a.A (ix3 0 i j) = (a.adj i j : EReal) := by
  unfold adj
  rcases o.hA (ix3 0 i j) with h | h <;> rw [h] <;> simp
theorem X_eq (i) : a.X i = ((a.X i).toReal : EReal) := by obtain ⟨r, h⟩ := o.hX i; rw [h, EReal.toReal_coe]
theorem K_eq (i) : a.K i = ((a.K i).toReal : EReal) := by obtain ⟨r, h⟩ := o.hK i; rw [h, EReal.toReal_coe]
theorem S_eq (i) : a.S i = ((a.S i).toReal : EReal) := by obtain ⟨r, h⟩ := o.hS i; rw [h, EReal.toReal_coe]
theorem N_eq (i) : a.N i = ((a.N i).toReal : EReal) := by obtain ⟨r, h⟩ := o.hN i; rw [h, EReal.toReal_coe]

theorem xk_eq (h : Fin 2) (n : Fin 4096) (d : Fin 64) : ∑ f, a.X (ix3 0 n f) * a.K (ix3 f h d) = (a.xk h n d : EReal) := by
  unfold xk
  rw [← coe_sum]
  refine Finset.sum_congr rfl fun f _ => ?_
  rw [EReal.coe_mul, ← X_eq o, ← K_eq o]
theorem fs_eq (h : Fin 2) (n : Fin 4096) : ∑ d, (a.xk h n d : EReal) * a.S (ix3 d h 0) = (a.fs h n : EReal) := by
  unfold fs
  rw [← coe_sum]
  refine Finset.sum_congr rfl fun f _ => ?_
  rw [EReal.coe_mul, ← S_eq o]
theorem fn_eq (h : Fin 2) (n : Fin 4096) : ∑ d, (a.xk h n d : EReal) * a.N (ix3 d h 0) = (a.fn h n : EReal) := by
  unfold fn
  rw [← coe_sum]
  refine Finset.sum_congr rfl fun f _ => ?_
  rw [EReal.coe_mul, ← N_eq o]
/-- Scaled by the slope before the sum. -/
theorem fs_slope (h : Fin 2) (n : Fin 4096) : ∑ d, (a.xk h n d : EReal) * ((slope : EReal) * a.S (ix3 d h 0)) = ((slope * a.fs h n : ℝ) : EReal) := by
  unfold fs
  rw [Finset.mul_sum, ← coe_sum]
  refine Finset.sum_congr rfl fun f _ => ?_
  rw [S_eq o, ← EReal.coe_mul, ← EReal.coe_mul]
  congr 1
  simp only [EReal.toReal_coe]
  ring
theorem fn_slope (h : Fin 2) (n : Fin 4096) : ∑ d, (a.xk h n d : EReal) * ((slope : EReal) * a.N (ix3 d h 0)) = ((slope * a.fn h n : ℝ) : EReal) := by
  unfold fn
  rw [Finset.mul_sum, ← coe_sum]
  refine Finset.sum_congr rfl fun f _ => ?_
  rw [N_eq o, ← EReal.coe_mul, ← EReal.coe_mul]
  congr 1
  simp only [EReal.toReal_coe]
  ring

end Args

end Cert.Gat
end
-- ==== Proof.KConv.lean ====
module

public import proofs.«01_k».proof.Proof.Progs
public import proofs.«01_k».proof.Proof.Spec
public import Idealize.ShloMosaic.Lib.Pipeline.ValueKit
public import Idealize.ShloMosaic.Lib.Pointwise

@[expose] public section

set_option maxRecDepth 16384

noncomputable section

namespace Cert.KernelIdeal.Gen

open Idealize.ShloMosaic Cert.Gat
open VecWindow (window put)

/-- A row of 4096, by its block of 512 and its place in the block. -/
def nk (k : Fin 8) (r : Fin 512) : Fin 4096 := ⟨512 * k.val + r.val, by omega⟩

/-! ## The payloads at an index -/

theorem p5 (h x) (r : Fin 512) (q : Fin 512) : k0_pay5 (F := Ideal) h x (ix2 r q) = ∑ e : Fin 64, h (ix2 r e) * x (ix2 q e) := by
  pointwise [k0_pay5]
theorem p6 (x : Vec Ideal S4096x128 .f32) (w : Vec Ideal S128x128 .f32) (n : Fin 4096) (q : Fin 128) : k0_pay6 x w (ix2 n q) = ∑ f : Fin 128, x (ix2 n f) * w (ix2 f q) := by
  pointwise [k0_pay6]
theorem p7 (x : Vec Ideal S4096x128 .f32) (w : Vec Ideal S128x128 .f32) (s : Vec Ideal S128x4 .f32) (n : Fin 4096) (q : Fin 4) :
    k0_pay7 x w s (ix2 n q) = ∑ p : Fin 128, k0_pay6 x w (ix2 n p) * s (ix2 p q) := by
  pointwise [k0_pay7]
theorem p8 (x : Vec Ideal S4096x128 .f32) (w : Vec Ideal S128x128 .f32) (s : Vec Ideal S128x4 .f32) (n : Fin 4096) (q : Fin 4) :
    k0_pay8 x w s (ix2 n q) = Ideal.exp (k0_pay7 x w s (ix2 n q)) := by
  pointwise [k0_pay8]
theorem p9 (x : Vec Ideal S4096x128 .f32) (w : Vec Ideal S128x128 .f32) (s : Vec Ideal S4x128 .f32) (e : Fin 4) (n : Fin 4096) :
    k0_pay9 x w s (ix2 ⟨e.val, by omega⟩ n) = Ideal.exp (∑ p : Fin 128, s (ix2 e p) * k0_pay6 x w (ix2 n p)) := by
  pointwise [k0_pay9]
theorem p10 (n : Fin 4096) : k0_pay10 (F := Ideal) (ix2 n 0) = 1 := by
  pointwise [k0_pay10]
theorem p11 (x : Vec Ideal S4096x128 .f32) (w : Vec Ideal S128x128 .f32) (n : Fin 4096) (q : Fin 64) : k0_pay11 x w (ix2 n ⟨q.val, by omega⟩) = k0_pay6 x w (ix2 n (lo q)) := by
  pointwise [k0_pay11, lo]
theorem p11' (x : Vec Ideal S4096x128 .f32) (w : Vec Ideal S128x128 .f32) (n : Fin 4096) : k0_pay11 x w (ix2 n 64) = 1 := by
  pointwise [k0_pay11]
  rw [p10]
theorem p12 (x : Vec Ideal S4096x128 .f32) (w : Vec Ideal S128x128 .f32) (n : Fin 4096) (q : Fin 64) : k0_pay12 x w (ix2 n ⟨q.val, by omega⟩) = k0_pay6 x w (ix2 n (hi q)) := by
  pointwise [k0_pay12, hi]
theorem p12' (x : Vec Ideal S4096x128 .f32) (w : Vec Ideal S128x128 .f32) (n : Fin 4096) : k0_pay12 x w (ix2 n 64) = 1 := by
  pointwise [k0_pay12]
  rw [p10]
theorem p1 (v : FVec Ideal S4096x128 .f32) (w : FVec Ideal S4096x4 .f32) (s : Vec Ideal S128x4 .f32) (n : Fin 4096) (q : Fin 2) :
    k0_pay1 v w s (ix2 n q) = max (Ideal.exp (w (ix2 n ⟨q.val, by omega⟩) + ∑ p : Fin 128, v (ix2 n p) * s (ix2 p ⟨q.val, by omega⟩)))
      (Ideal.exp (w (ix2 n ⟨2 + q.val, by omega⟩) + ∑ p : Fin 128, v (ix2 n p) * s (ix2 p ⟨2 + q.val, by omega⟩))) := by
  pointwise [k0_pay1]
theorem p14 (a b) (r : Fin 512) (q : Fin 2) : k0_pay14 (F := Ideal) a b (ix2 r q) = (1 - a (ix2 r r)) * b (ix2 r q) := by
  rw [← sum_diag r (fun x => a (ix2 r x)) (by norm_num)]
  pointwise [k0_pay14]
theorem p16 (a b) (r : Fin 512) : k0_pay16 (F := Ideal) a b (ix2 r 0) = (1 - a (ix2 r r)) * b (ix2 r 0) := by
  rw [← p14]
  pointwise [k0_pay16]
theorem p15 (a b c d e f) (r : Fin 512) (q : Fin 65) :
    k0_pay15 (F := Ideal) a b c d e f (ix2 r q) = ∑ x : Fin 4096, a (ix2 r x) * max (b (ix2 r 0) * d (ix2 0 x)) (c (ix2 r 0) * e (ix2 0 x)) * f (ix2 x q) := by
  pointwise [k0_pay15, k0_pay13]
theorem p17 (a b c d) (r : Fin 512) (q : Fin 64) : k0_pay17 (F := Ideal) a b c d (ix2 r q)
    = Ideal.div (a (ix2 r ⟨q.val, by omega⟩) + b (ix2 r 0) * c (ix2 r ⟨q.val, by omega⟩)) (a (ix2 r 64) + b (ix2 r 0) * c (ix2 r 64)) + d (ix2 0 q) := by
  pointwise [k0_pay17]
theorem p19 (a b c d e f g h) (r : Fin 512) (q : Fin 64) : k0_pay19 (F := Ideal) (k0_pay13 a) b c d e f g h (ix2 r q)
    = ∑ x : Fin 4096, a (ix2 r x) * max (c (ix2 r 0) * e (ix2 0 x)) (d (ix2 r 0) * f (ix2 0 x)) * g (ix2 x ⟨q.val, by omega⟩) + b (ix2 r 1) * h (ix2 r ⟨q.val, by omega⟩) := by
  pointwise [k0_pay19, k0_pay18, k0_pay13]
theorem p20 (a b c d e f g h) (r : Fin 512) : k0_pay20 (F := Ideal) (k0_pay13 a) b c d e f g h (ix2 r 0)
    = ∑ x : Fin 4096, a (ix2 r x) * max (c (ix2 r 0) * e (ix2 0 x)) (d (ix2 r 0) * f (ix2 0 x)) * g (ix2 x 64) + b (ix2 r 1) * h (ix2 r 64) := by
  pointwise [k0_pay20, k0_pay18, k0_pay13]
theorem pR (h x) (r : Fin 512) (q : Fin 64) : timesR (F := Ideal) h x (ix2 r q) = ∑ e : Fin 64, h (ix2 r e) * x (ix2 e q) := by
  pointwise [timesR]
set_option maxHeartbeats 1000000 in
theorem pGru (v n x8 x9 x10 x11 x13 x14 x15 x16) (r : Fin 512) (q : Fin 64) (c1 : Fin 64 → EReal) (hc : ∀ x, Ideal.div (n.1 (ix2 r x)) (n.2 (ix2 r 0)) + x13 (ix2 0 x) = c1 x) :
    gru (F := Ideal) v n x8 x9 x10 x11 x13 x14 x15 x16 (ix2 r q)
    = Ideal.logistic (x9 (ix2 r 0) + (∑ x : Fin 64, v (ix2 r x) * x14 (ix2 ⟨x.val, by omega⟩ q) + ∑ x : Fin 64, c1 x * x14 (ix2 ⟨64 + x.val, by omega⟩ q) + ∑ x : Fin 64, x8 (ix2 r x) * x14 (ix2 ⟨128 + x.val, by omega⟩ q))) * x8 (ix2 r q)
      + (1 - Ideal.logistic (x9 (ix2 r 0) + (∑ x : Fin 64, v (ix2 r x) * x14 (ix2 ⟨x.val, by omega⟩ q) + ∑ x : Fin 64, c1 x * x14 (ix2 ⟨64 + x.val, by omega⟩ q) + ∑ x : Fin 64, x8 (ix2 r x) * x14 (ix2 ⟨128 + x.val, by omega⟩ q))))
        * Ideal.tanh (x11 (ix2 r 0) + (∑ x : Fin 64, v (ix2 r x) * x16 (ix2 ⟨x.val, by omega⟩ q) + ∑ x : Fin 64, c1 x * x16 (ix2 ⟨64 + x.val, by omega⟩ q)
          + ∑ x : Fin 64, Ideal.logistic (x10 (ix2 r 0) + (∑ y : Fin 64, v (ix2 r y) * x15 (ix2 ⟨y.val, by omega⟩ x) + ∑ y : Fin 64, c1 y * x15 (ix2 ⟨64 + y.val, by omega⟩ x) + ∑ y : Fin 64, x8 (ix2 r y) * x15 (ix2 ⟨128 + y.val, by omega⟩ x))) * x8 (ix2 r x)
            * x16 (ix2 ⟨128 + x.val, by omega⟩ q))) := by
  simp only [← hc]
  pointwise [gru, k0_pay2, k0_pay21, k0_pay22, k0_pay23, k0_pay24, k0_pay25]

/-! ## Where the windows lie -/

theorem off5 : ∀ k : Fin 8, k0_off5 (BitVec.ofNat 32 k.val) = ![0, 512 * k.val] := by decide
theorem off6 : ∀ k : Fin 8, k0_off6 (BitVec.ofNat 32 k.val) = ![512 * k.val, 0] := by decide
theorem off7 : ∀ k : Fin 8, k0_off7 (BitVec.ofNat 32 k.val) = ![512 * k.val, 0] := by decide
theorem off8 : ∀ k : Fin 8, k0_off8 (BitVec.ofNat 32 k.val) = ![512 * k.val, 2] := by decide
theorem off9 : ∀ k : Fin 8, k0_off9 (BitVec.ofNat 32 k.val) = ![512 * k.val, 0] := by decide
theorem off10 : ∀ k : Fin 8, k0_off10 (BitVec.ofNat 32 k.val) = ![512 * k.val, 1] := by decide
theorem off11 : ∀ k : Fin 8, k0_off11 (BitVec.ofNat 32 k.val) = ![512 * k.val, 3] := by decide

/-- A window of a matrix, at an index. -/
theorem win_rd {α : Type} {n0 n1 m0 m1 : ℕ} (x : (⟨2, ![n0, n1]⟩ : Shape).Idx → α) (off : Fin 2 → ℕ) (inb) (i : Fin m0) (j : Fin m1) (i' : Fin n0) (j' : Fin n1)
    (hi : off 0 + i.val = i'.val) (hj : off 1 + j.val = j'.val) :
    window x off (⟨2, ![m0, m1]⟩ : Shape).size inb (ix2 i j) = x (ix2 i' j') := by
  refine congrArg x (funext fun (a : Fin 2) => Fin.ext ?_)
  refine (ValueKit.rect_emb_unit_val (s := (⟨2, ![n0, n1]⟩ : Shape)) _ _ _ _ a).trans ?_
  match a with
  | 0 => exact hi
  | 1 => exact hj

end Cert.KernelIdeal.Gen
end
-- ==== Proof.KGat.lean ====
module

public import proofs.«01_k».proof.Proof.KConv

@[expose] public section

set_option maxRecDepth 16384

noncomputable section

namespace Cert.KernelIdeal.Gen

open Idealize.ShloMosaic Cert.Gat
open VecWindow (window put)

/-- What the set-up's arrays and a block of the graph's rows hold. -/
structure Tab (a : Args) (k : Fin 8) (x7 : Vec Ideal S512x4096 .f32) (x20 : Vec Ideal S4096x65 .bf16) (x21 : Vec Ideal S4096x65 .bf16) (x22 : Vec Ideal S4096x4 .bf16)
    (x23 : Vec Ideal S16x4096 .bf16) (x24 : Vec Ideal S4096x2 .f32) : Prop where
  h7 : ∀ r j, x7 (ix2 r j) = (a.adj (nk k r) j : EReal)
  h20 : ∀ n (d : Fin 64), x20 (ix2 n ⟨d.val, by omega⟩) = (a.xk 0 n d : EReal)
  h20' : ∀ n, x20 (ix2 n 64) = 1
  h21 : ∀ n (d : Fin 64), x21 (ix2 n ⟨d.val, by omega⟩) = (a.xk 1 n d : EReal)
  h21' : ∀ n, x21 (ix2 n 64) = 1
  h22 : ∀ n (e : Fin 2), x22 (ix2 n ⟨e.val, by omega⟩) = Ideal.exp (a.fs e n : EReal)
  h22' : ∀ n (e : Fin 2), x22 (ix2 n ⟨2 + e.val, by omega⟩) = Ideal.exp ((slope * a.fs e n : ℝ) : EReal)
  h23 : ∀ n (e : Fin 2), x23 (ix2 ⟨e.val, by omega⟩ n) = Ideal.exp (a.fn e n : EReal)
  h23' : ∀ n (e : Fin 2), x23 (ix2 ⟨2 + e.val, by omega⟩ n) = Ideal.exp ((slope * a.fn e n : ℝ) : EReal)
  h24 : ∀ n (e : Fin 2), x24 (ix2 n e) = ((Real.exp (leaky (a.fs e n + a.fn e n)) : ℝ) : EReal)

variable {a : Args} (o : a.Ok) {k : Fin 8} {x7 : Vec Ideal S512x4096 .f32} {x20 : Vec Ideal S4096x65 .bf16} {x21 : Vec Ideal S4096x65 .bf16} {x22 : Vec Ideal S4096x4 .bf16}
  {x23 : Vec Ideal S16x4096 .bf16} {x24 : Vec Ideal S4096x2 .f32} (T : Tab a k x7 x20 x21 x22 x23 x24)
include o T

/-- The weighted sums of a head, against the columns of its own rows or against ones. -/
theorem head_conv (e : Fin 2) (r : Fin 512) (d : Fin 64) (s s' : EReal) (y y' : Fin 4096 → EReal) (g w v : EReal)
    (hs : s = Ideal.exp (a.fs e (nk k r) : EReal)) (hs' : s' = Ideal.exp ((slope * a.fs e (nk k r) : ℝ) : EReal))
    (hy : ∀ j, y j = Ideal.exp (a.fn e j : EReal)) (hy' : ∀ j, y' j = Ideal.exp ((slope * a.fn e j : ℝ) : EReal))
    (hg : g = (1 - (a.adj (nk k r) (nk k r) : EReal)) * ((Real.exp (leaky (a.fs e (nk k r) + a.fn e (nk k r))) : ℝ) : EReal))
    (X : Fin 4096 → EReal) (X1 : Fin 4096 → EReal) (hX : ∀ j, X j = (a.xk e j d : EReal)) (hX1 : ∀ j, X1 j = 1)
    (hw : w = X (nk k r)) (hv : v = X1 (nk k r)) :
    Ideal.div (∑ j, x7 (ix2 r j) * max (s * y j) (s' * y' j) * X j + g * w) (∑ j, x7 (ix2 r j) * max (s * y j) (s' * y' j) * X1 j + g * v)
      = (a.conv e (nk k r) d : EReal) := by
  subst hs hs' hg hw hv
  simp only [hy, hy', hX, hX1, T.h7, max_exp_mul]
  exact att_tab (nk k r) (a.adj (nk k r)) (a.fs e (nk k r)) (a.fn e) (Args.adj_zo o (nk k r)) fun j => a.xk e j d

theorem gat0_eq (v1 v3 : BitVec 32) (hv : v3 = BitVec.ofNat 32 k.val) (hw : k0_chk1 v1 v3) (h2 : k0_cond2 v1 = 1#1) (x12 : Vec Ideal S1x64 .f32)
    (h12 : ∀ d, x12 (ix2 0 d) = a.B (ix1 (lo d))) (r : Fin 512) (q : Fin 64) :
    gat0 v1 v3 hw h2 x7 x12 x20 x22 x23 x24 (ix2 r q) = a.c0 (nk k r) q := by
  subst hv
  have hk := k.isLt
  unfold gat0
  rw [p17, p15, p15, p16, h12]
  refine congrArg (· + _) ?_
  refine head_conv o T 0 r q _ _ _ _ _ _ _ ?_ ?_ (fun j => ?_) (fun j => ?_) ?_ _ _ (fun j => T.h20 j q) (fun j => T.h20' j) ?_ ?_
  · exact (win_rd x22 _ _ r 0 (nk k r) 0 (by rw [off7]; rfl) (by rw [off7]; rfl)).trans (T.h22 _ 0)
  · exact (win_rd x22 _ _ r 0 (nk k r) 2 (by rw [off8]; rfl) (by rw [off8]; rfl)).trans (T.h22' _ 0)
  · exact (win_rd x23 _ _ 0 j 0 j rfl (Nat.zero_add _)).trans (T.h23 _ 0)
  · exact (win_rd x23 _ _ 0 j 2 j rfl (Nat.zero_add _)).trans (T.h23' _ 0)
  · exact congrArg₂ (· * ·) (congrArg (1 - ·) ((win_rd x7 _ _ r r r (nk k r) (by rw [off5]; exact Nat.zero_add _) (by rw [off5]; rfl)).trans (T.h7 _ _)))
      ((win_rd x24 _ _ r 0 (nk k r) 0 (by rw [off6]; rfl) (by rw [off6]; rfl)).trans (T.h24 _ 0))
  · exact win_rd x20 _ _ r _ (nk k r) _ (by rw [off9]; rfl) (by rw [off9]; exact Nat.zero_add _)
  · exact win_rd x20 _ _ r _ (nk k r) _ (by rw [off9]; rfl) (by rw [off9]; exact Nat.zero_add _)

theorem gat1_eq (v1 v3 : BitVec 32) (hv : v3 = BitVec.ofNat 32 k.val) (hw : k0_chk1 v1 v3) (h2 : k0_cond2 v1 = 1#1) (x13 : Vec Ideal S1x64 .f32)
    (h13 : ∀ d, x13 (ix2 0 d) = a.B (ix1 (hi d))) (r : Fin 512) (q : Fin 64) :
    Ideal.div ((gat1 v1 v3 hw h2 x7 x21 x22 x23 x24).1 (ix2 r q)) ((gat1 v1 v3 hw h2 x7 x21 x22 x23 x24).2 (ix2 r 0)) + x13 (ix2 0 q) = a.c1 (nk k r) q := by
  subst hv
  have hk := k.isLt
  unfold gat1
  dsimp only
  rw [p19, p20, p14, h13]
  refine congrArg (· + _) ?_
  refine head_conv o T 1 r q _ _ _ _ _ _ _ ?_ ?_ (fun j => ?_) (fun j => ?_) ?_ _ _ (fun j => T.h21 j q) (fun j => T.h21' j) ?_ ?_
  · exact (win_rd x22 _ _ r 0 (nk k r) 1 (by rw [off10]; rfl) (by rw [off10]; rfl)).trans (T.h22 _ 1)
  · exact (win_rd x22 _ _ r 0 (nk k r) 3 (by rw [off11]; rfl) (by rw [off11]; rfl)).trans (T.h22' _ 1)
  · exact (win_rd x23 _ _ 0 j 1 j rfl (Nat.zero_add _)).trans (T.h23 _ 1)
  · exact (win_rd x23 _ _ 0 j 3 j rfl (Nat.zero_add _)).trans (T.h23' _ 1)
  · exact congrArg₂ (· * ·) (congrArg (1 - ·) ((win_rd x7 _ _ r r r (nk k r) (by rw [off5]; exact Nat.zero_add _) (by rw [off5]; rfl)).trans (T.h7 _ _)))
      ((win_rd x24 _ _ r 1 (nk k r) 1 (by rw [off6]; rfl) (by rw [off6]; rfl)).trans (T.h24 _ 1))
  · exact win_rd x21 _ _ r _ (nk k r) _ (by rw [off9]; rfl) (by rw [off9]; exact Nat.zero_add _)
  · exact win_rd x21 _ _ r _ (nk k r) _ (by rw [off9]; rfl) (by rw [off9]; exact Nat.zero_add _)

/-- A block of the new state. -/
theorem gatH_eq (v1 v3 : BitVec 32) (hv : v3 = BitVec.ofNat 32 k.val) (hw : k0_chk1 v1 v3) (h2 : k0_cond2 v1 = 1#1) (x8 : Vec Ideal S512x64 .f32) (x9 x10 x11 : Vec Ideal S512x1 .f32)
    (x12 x13 : Vec Ideal S1x64 .f32) (x14 x15 x16 : Vec Ideal S192x64 .f32)
    (h8 : ∀ r d, x8 (ix2 r d) = a.old (nk k r) d) (h9 : ∀ r, x9 (ix2 r 0) = a.bu (ix2 (nk k r) 0)) (h10 : ∀ r, x10 (ix2 r 0) = a.br (ix2 (nk k r) 0)) (h11 : ∀ r, x11 (ix2 r 0) = a.bc (ix2 (nk k r) 0))
    (h12 : ∀ d, x12 (ix2 0 d) = a.B (ix1 (lo d))) (h13 : ∀ d, x13 (ix2 0 d) = a.B (ix1 (hi d)))
    (h14 : x14 = a.Wu) (h15 : x15 = a.Wr) (h16 : x16 = a.Wc) (r : Fin 512) (q : Fin 64) :
    gatH v1 v3 hw h2 x7 x8 x9 x10 x11 x12 x13 x14 x15 x16 x20 x21 x22 x23 x24 (ix2 r q) = a.new (nk k r) q := by
  subst h14 h15 h16
  unfold gatH
  rw [pGru _ _ _ _ _ _ _ _ _ _ r q (fun d => a.c1 (nk k r) d) (gat1_eq o T v1 v3 hv hw h2 x13 h13 r)]
  simp only [gat0_eq o T v1 v3 hv hw h2 x12 h12, h8, h9, h10, h11]
  rfl

end Cert.KernelIdeal.Gen
end
-- ==== Proof.Host.lean ====
module

public import proofs.«01_k».proof.Proof.Table
public import Idealize.ShloMosaic.Lib.StableHlo.Run
public import Idealize.ShloMosaic.Lib.Pointwise

@[expose] public section

set_option maxRecDepth 16384

noncomputable section

namespace Cert.KernelIdeal.Gen

open Idealize.ShloMosaic Idealize.ShloMosaic.TcCoe Idealize.SL.Sem
open Idealize.ShloMosaic.StableHlo

/-! ## What the host leaves in the arrays the region reads -/

/-- Which row of 128 belongs to which of the two heads: the row's number over 64, rounded down, is the head's. -/
def hsel : IVec S128x2 1 :=
  cmpi .eq (broadcastInDim S128x2 ![0, 1] bcast_S128x1_S128x2_0_1 (broadcastInDim S128x1 ![0] bcast_S128_S128x1_0
      (select (andi (cmpi .ne (signi (iotaInDim S128 32 0)) (broadcastInDim S128 ![] bcast_S_S128 (signi (constantI S_ 32 64#32))))
          (cmpi .ne (Host.remsi (iotaInDim S128 32 0) (broadcastInDim S128 ![] bcast_S_S128 (constantI S_ 32 64#32))) (broadcastInDim S128 ![] bcast_S_S128 (constantI S_ 32 0#32))))
        (subi (Host.divsi (iotaInDim S128 32 0) (broadcastInDim S128 ![] bcast_S_S128 (constantI S_ 32 64#32))) (broadcastInDim S128 ![] bcast_S_S128 (constantI S_ 32 1#32)))
        (Host.divsi (iotaInDim S128 32 0) (broadcastInDim S128 ![] bcast_S_S128 (constantI S_ 32 64#32))))))
    (broadcastInDim S128x2 ![0, 1] bcast_S1x2_S128x2_0_1 (broadcastInDim S1x2 ![1] bcast_S2_S1x2_1 (iotaInDim S2 32 0)))

section
variable {F : FTy → Type} [FloatOps F]
variable (m : (ℓ : Loc nD τ sig) → Buf (Elt F) ℓ)

/-- Two arrays of two columns beside each other, and two of two rows above each other. -/
def catC (a b : FVec F S128x2 .f32) : FVec F S128x4 .f32 := concatenate S128x4 1 [⟨S128x2, a⟩, ⟨S128x2, b⟩] concatenates_S128x2_S128x2_S128x4_d1
def catR (a b : FVec F S2x128 .f32) : FVec F S4x128 .f32 := concatenate S4x128 0 [⟨S2x128, a⟩, ⟨S2x128, b⟩] concatenates_S2x128_S2x128_S4x128_d0

theorem catC_eq : (fun (a b : FVec F S128x2 .f32) => concatenate S128x4 1 [⟨S128x2, a⟩, ⟨S128x2, b⟩] concatenates_S128x2_S128x2_S128x4_d1) = catC := rfl
theorem catR_eq : (fun (a b : FVec F S2x128 .f32) => concatenate S4x128 0 [⟨S2x128, a⟩, ⟨S2x128, b⟩] concatenates_S2x128_S2x128_S4x128_d0) = catR := rfl

/-- The two heads' vectors as a matrix of two columns, each zero off its own head's rows. -/
def headsOf (a : FVec F S64x2x1 .f32) : FVec F S128x2 .f32 :=
  select hsel (shapeCast S128x2 (broadcastInDim S2x64x1x2 ![0, 1, 2, 3] bcast_S1x64x1x2_S2x64x1x2_0_1_2_3
      (shapeCast S1x64x1x2 (shapeCast S64x2 a shapeCasts_S64x2x1_S64x2) shapeCasts_S64x2_S1x64x1x2)) shapeCasts_S2x64x1x2_S128x2)
    (broadcastInDim S128x2 ![] bcast_S_S128x2 (constant S_ .f32 0x00000000#32))
def cols4 (s : FVec F S128x2 .f32) : FVec F S128x4 .f32 := catC s (mulf (broadcastInDim S128x2 ![] bcast_S_S128x2 (constant S_ .f32 0x3E4CCCCD#32)) s)
def rows4 (s : FVec F S128x2 .f32) : FVec F S4x128 .f32 :=
  catR (transpose S2x128 [1, 0] s transposes_S128x2_S2x128_1_0)
    (mulf (broadcastInDim S2x128 ![] bcast_S_S2x128 (constant S_ .f32 0x3E4CCCCD#32)) (transpose S2x128 [1, 0] s transposes_S128x2_S2x128_1_0))

set_option maxHeartbeats 4000000 in
theorem V_v0 (c : Dev nD) : V m c main_call0_v0 = shapeCast S4096x128 (m ((c : Thread nD τ).loc main_arg0)) shapeCasts_S1x4096x128_S4096x128 := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v1 (c : Dev nD) : V m c main_call0_v1 = shapeCast S4096x4096 (m ((c : Thread nD τ).loc main_arg1)) shapeCasts_S1x4096x4096_S4096x4096 := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v2 (c : Dev nD) : V m c main_call0_v2 = shapeCast S4096x64 (m ((c : Thread nD τ).loc main_arg2)) shapeCasts_S1x4096x64_S4096x64 := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v3 (c : Dev nD) : V m c main_call0_v3 = shapeCast S128x128 (m ((c : Thread nD τ).loc main_arg3)) shapeCasts_S128x2x64_S128x128 := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v24 (c : Dev nD) : V m c main_call0_v24 = cols4 (headsOf (m ((c : Thread nD τ).loc main_arg4))) := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v27 (c : Dev nD) : V m c main_call0_v27 = cols4 (headsOf (m ((c : Thread nD τ).loc main_arg5))) := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v32 (c : Dev nD) : V m c main_call0_v32 = rows4 (headsOf (m ((c : Thread nD τ).loc main_arg5))) := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v34 (c : Dev nD) : V m c main_call0_v34 = shapeCast S1x64 (extractStridedSlice S64 ![0] (m ((c : Thread nD τ).loc main_arg6)) slices_S128_S64_0) shapeCasts_S64_S1x64 := by
  unfold V
  simp only [hostOps0]
  simp only [catC_eq, catR_eq]
  simp only [TRef.nullary, TRef.ternary, TRef.binary, TRef.reshape, TRef.unary, TRef.toBuf, TRef.ofBuf, cast_eq]
  after_results_simp
  rfl

set_option maxHeartbeats 4000000 in
theorem V_v36 (c : Dev nD) : V m c main_call0_v36 = shapeCast S1x64 (extractStridedSlice S64 ![64] (m ((c : Thread nD τ).loc main_arg6)) slices_S128_S64_64) shapeCasts_S64_S1x64 := by
  unfold V
  simp only [hostOps0]
  simp only [catC_eq, catR_eq]
  simp only [TRef.nullary, TRef.ternary, TRef.binary, TRef.reshape, TRef.unary, TRef.toBuf, TRef.ofBuf, cast_eq]
  after_results_simp
  rfl

end

end Cert.KernelIdeal.Gen
end
-- ==== Proof.Blocks.lean ====
module

public import proofs.«01_k».proof.Proof.Host
public import proofs.«01_k».proof.Proof.Run
public import proofs.«01_k».proof.Proof.KConv
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem

section
variable {F : FTy → Type} [FloatOps F]
variable (m : (ℓ : Loc nD τ sig) → Buf (Elt F) ℓ)

theorem wK_val : ∀ t : Fin grid0.N, (wK (grid0.coords t)).toNat = kOf t.val := by decide +kernel
theorem wI_val : ∀ t : Fin grid0.N, (wI (grid0.coords t)).toNat = iOf t.val := by decide +kernel
theorem wJ_val : ∀ t : Fin grid0.N, (wJ (grid0.coords t)).toNat = jOf t.val := by decide +kernel

theorem rd0 (X : Vec F S4096x128 .f32) (t : Fin grid0.N) : (((cfgT (F := F)).win 0).blk t).view.read (Elt F) X = X := by
  funext y
  refine congrArg X (funext fun (a : Fin 2) => Fin.ext ?_)
  refine (ValueKit.rect_emb_unit_val (s := S4096x128) _ _ _ _ a).trans ?_
  match a with
  | 0 => exact Nat.zero_add _
  | 1 => exact Nat.zero_add _
theorem iblk0 (c : Dev nD) (t : Fin grid0.N) : (iblk m c 0 t : Vec F S4096x128 .f32) = V m c main_call0_v0 := rd0 _ t
theorem rd1 (X : Vec F S128x128 .f32) (t : Fin grid0.N) : (((cfgT (F := F)).win 1).blk t).view.read (Elt F) X = X := by
  funext y
  refine congrArg X (funext fun (a : Fin 2) => Fin.ext ?_)
  refine (ValueKit.rect_emb_unit_val (s := S128x128) _ _ _ _ a).trans ?_
  match a with
  | 0 => exact Nat.zero_add _
  | 1 => exact Nat.zero_add _
theorem iblk1 (c : Dev nD) (t : Fin grid0.N) : (iblk m c 1 t : Vec F S128x128 .f32) = V m c main_call0_v3 := rd1 _ t
theorem rd2 (X : Vec F S128x4 .f32) (t : Fin grid0.N) : (((cfgT (F := F)).win 2).blk t).view.read (Elt F) X = X := by
  funext y
  refine congrArg X (funext fun (a : Fin 2) => Fin.ext ?_)
  refine (ValueKit.rect_emb_unit_val (s := S128x4) _ _ _ _ a).trans ?_
  match a with
  | 0 => exact Nat.zero_add _
  | 1 => exact Nat.zero_add _
theorem iblk2 (c : Dev nD) (t : Fin grid0.N) : (iblk m c 2 t : Vec F S128x4 .f32) = V m c main_call0_v24 := rd2 _ t
theorem rd3 (X : Vec F S128x4 .f32) (t : Fin grid0.N) : (((cfgT (F := F)).win 3).blk t).view.read (Elt F) X = X := by
  funext y
  refine congrArg X (funext fun (a : Fin 2) => Fin.ext ?_)
  refine (ValueKit.rect_emb_unit_val (s := S128x4) _ _ _ _ a).trans ?_
  match a with
  | 0 => exact Nat.zero_add _
  | 1 => exact Nat.zero_add _
theorem iblk3 (c : Dev nD) (t : Fin grid0.N) : (iblk m c 3 t : Vec F S128x4 .f32) = V m c main_call0_v27 := rd3 _ t
theorem rd4 (X : Vec F S4x128 .f32) (t : Fin grid0.N) : (((cfgT (F := F)).win 4).blk t).view.read (Elt F) X = X := by
  funext y
  refine congrArg X (funext fun (a : Fin 2) => Fin.ext ?_)
  refine (ValueKit.rect_emb_unit_val (s := S4x128) _ _ _ _ a).trans ?_
  match a with
  | 0 => exact Nat.zero_add _
  | 1 => exact Nat.zero_add _
theorem iblk4 (c : Dev nD) (t : Fin grid0.N) : (iblk m c 4 t : Vec F S4x128 .f32) = V m c main_call0_v32 := rd4 _ t
theorem rd10 (X : Vec F S1x64 .f32) (t : Fin grid0.N) : (((cfgT (F := F)).win 10).blk t).view.read (Elt F) X = X := by
  funext y
  refine congrArg X (funext fun (a : Fin 2) => Fin.ext ?_)
  refine (ValueKit.rect_emb_unit_val (s := S1x64) _ _ _ _ a).trans ?_
  match a with
  | 0 => exact Nat.zero_add _
  | 1 => exact Nat.zero_add _
theorem iblk10 (c : Dev nD) (t : Fin grid0.N) : (iblk m c 10 t : Vec F S1x64 .f32) = V m c main_call0_v34 := rd10 _ t
theorem rd11 (X : Vec F S1x64 .f32) (t : Fin grid0.N) : (((cfgT (F := F)).win 11).blk t).view.read (Elt F) X = X := by
  funext y
  refine congrArg X (funext fun (a : Fin 2) => Fin.ext ?_)
  refine (ValueKit.rect_emb_unit_val (s := S1x64) _ _ _ _ a).trans ?_
  match a with
  | 0 => exact Nat.zero_add _
  | 1 => exact Nat.zero_add _
theorem iblk11 (c : Dev nD) (t : Fin grid0.N) : (iblk m c 11 t : Vec F S1x64 .f32) = V m c main_call0_v36 := rd11 _ t
theorem rd12 (X : Vec F S192x64 .f32) (t : Fin grid0.N) : (((cfgT (F := F)).win 12).blk t).view.read (Elt F) X = X := by
  funext y
  refine congrArg X (funext fun (a : Fin 2) => Fin.ext ?_)
  refine (ValueKit.rect_emb_unit_val (s := S192x64) _ _ _ _ a).trans ?_
  match a with
  | 0 => exact Nat.zero_add _
  | 1 => exact Nat.zero_add _
theorem iblk12 (c : Dev nD) (t : Fin grid0.N) : (iblk m c 12 t : Vec F S192x64 .f32) = V m c main_arg10 := rd12 _ t
theorem rd13 (X : Vec F S192x64 .f32) (t : Fin grid0.N) : (((cfgT (F := F)).win 13).blk t).view.read (Elt F) X = X := by
  funext y
  refine congrArg X (funext fun (a : Fin 2) => Fin.ext ?_)
  refine (ValueKit.rect_emb_unit_val (s := S192x64) _ _ _ _ a).trans ?_
  match a with
  | 0 => exact Nat.zero_add _
  | 1 => exact Nat.zero_add _
theorem iblk13 (c : Dev nD) (t : Fin grid0.N) : (iblk m c 13 t : Vec F S192x64 .f32) = V m c main_arg11 := rd13 _ t
theorem rd14 (X : Vec F S192x64 .f32) (t : Fin grid0.N) : (((cfgT (F := F)).win 14).blk t).view.read (Elt F) X = X := by
  funext y
  refine congrArg X (funext fun (a : Fin 2) => Fin.ext ?_)
  refine (ValueKit.rect_emb_unit_val (s := S192x64) _ _ _ _ a).trans ?_
  match a with
  | 0 => exact Nat.zero_add _
  | 1 => exact Nat.zero_add _
theorem iblk14 (c : Dev nD) (t : Fin grid0.N) : (iblk m c 14 t : Vec F S192x64 .f32) = V m c main_arg12 := rd14 _ t
theorem rd15 (X : Vec F S64x64 .f32) (t : Fin grid0.N) : (((cfgT (F := F)).win 15).blk t).view.read (Elt F) X = X := by
  funext y
  refine congrArg X (funext fun (a : Fin 2) => Fin.ext ?_)
  refine (ValueKit.rect_emb_unit_val (s := S64x64) _ _ _ _ a).trans ?_
  match a with
  | 0 => exact Nat.zero_add _
  | 1 => exact Nat.zero_add _
theorem iblk15 (c : Dev nD) (t : Fin grid0.N) : (iblk m c 15 t : Vec F S64x64 .f32) = V m c main_arg13 := rd15 _ t
theorem rd5 (X : Vec F S4096x4096 .f32) (t : Fin grid0.N) (r : Fin 512) (j : Fin 4096) : (((cfgT (F := F)).win 5).blk t).view.read (Elt F) X (ix2 r j) = X (ix2 (nk (kF t) r) j) := by
  refine congrArg X (funext fun (a : Fin 2) => Fin.ext ?_)
  refine (ValueKit.rect_emb_unit_val (s := S4096x4096) _ _ _ _ a).trans ?_
  match a with
  | 0 =>
    show (wK (grid0.coords t)).toNat * 512 + r.val = 512 * kOf t.val + r.val
    rw [wK_val, Nat.mul_comm]
  | 1 => exact Nat.zero_add _
theorem iblk5 (c : Dev nD) (t : Fin grid0.N) (r : Fin 512) (j : Fin 4096) : (iblk m c 5 t : Vec F S512x4096 .f32) (ix2 r j) = V m c main_call0_v1 (ix2 (nk (kF t) r) j) := rd5 _ t r j
theorem rd6 (X : Vec F S4096x64 .f32) (t : Fin grid0.N) (r : Fin 512) (j : Fin 64) : (((cfgT (F := F)).win 6).blk t).view.read (Elt F) X (ix2 r j) = X (ix2 (nk (kF t) r) j) := by
  refine congrArg X (funext fun (a : Fin 2) => Fin.ext ?_)
  refine (ValueKit.rect_emb_unit_val (s := S4096x64) _ _ _ _ a).trans ?_
  match a with
  | 0 =>
    show (wK (grid0.coords t)).toNat * 512 + r.val = 512 * kOf t.val + r.val
    rw [wK_val, Nat.mul_comm]
  | 1 => exact Nat.zero_add _
theorem iblk6 (c : Dev nD) (t : Fin grid0.N) (r : Fin 512) (j : Fin 64) : (iblk m c 6 t : Vec F S512x64 .f32) (ix2 r j) = V m c main_call0_v2 (ix2 (nk (kF t) r) j) := rd6 _ t r j
theorem rd7 (X : Vec F S4096x1 .f32) (t : Fin grid0.N) (r : Fin 512) (j : Fin 1) : (((cfgT (F := F)).win 7).blk t).view.read (Elt F) X (ix2 r j) = X (ix2 (nk (kF t) r) j) := by
  refine congrArg X (funext fun (a : Fin 2) => Fin.ext ?_)
  refine (ValueKit.rect_emb_unit_val (s := S4096x1) _ _ _ _ a).trans ?_
  match a with
  | 0 =>
    show (wK (grid0.coords t)).toNat * 512 + r.val = 512 * kOf t.val + r.val
    rw [wK_val, Nat.mul_comm]
  | 1 => exact Nat.zero_add _
theorem iblk7 (c : Dev nD) (t : Fin grid0.N) (r : Fin 512) (j : Fin 1) : (iblk m c 7 t : Vec F S512x1 .f32) (ix2 r j) = V m c main_arg7 (ix2 (nk (kF t) r) j) := rd7 _ t r j
theorem rd8 (X : Vec F S4096x1 .f32) (t : Fin grid0.N) (r : Fin 512) (j : Fin 1) : (((cfgT (F := F)).win 8).blk t).view.read (Elt F) X (ix2 r j) = X (ix2 (nk (kF t) r) j) := by
  refine congrArg X (funext fun (a : Fin 2) => Fin.ext ?_)
  refine (ValueKit.rect_emb_unit_val (s := S4096x1) _ _ _ _ a).trans ?_
  match a with
  | 0 =>
    show (wK (grid0.coords t)).toNat * 512 + r.val = 512 * kOf t.val + r.val
    rw [wK_val, Nat.mul_comm]
  | 1 => exact Nat.zero_add _
theorem iblk8 (c : Dev nD) (t : Fin grid0.N) (r : Fin 512) (j : Fin 1) : (iblk m c 8 t : Vec F S512x1 .f32) (ix2 r j) = V m c main_arg8 (ix2 (nk (kF t) r) j) := rd8 _ t r j
theorem rd9 (X : Vec F S4096x1 .f32) (t : Fin grid0.N) (r : Fin 512) (j : Fin 1) : (((cfgT (F := F)).win 9).blk t).view.read (Elt F) X (ix2 r j) = X (ix2 (nk (kF t) r) j) := by
  refine congrArg X (funext fun (a : Fin 2) => Fin.ext ?_)
  refine (ValueKit.rect_emb_unit_val (s := S4096x1) _ _ _ _ a).trans ?_
  match a with
  | 0 =>
    show (wK (grid0.coords t)).toNat * 512 + r.val = 512 * kOf t.val + r.val
    rw [wK_val, Nat.mul_comm]
  | 1 => exact Nat.zero_add _
theorem iblk9 (c : Dev nD) (t : Fin grid0.N) (r : Fin 512) (j : Fin 1) : (iblk m c 9 t : Vec F S512x1 .f32) (ix2 r j) = V m c main_arg9 (ix2 (nk (kF t) r) j) := rd9 _ t r j

end

end Cert.KernelIdeal.Gen
end
-- ==== Proof.HostRead.lean ====
module

public import proofs.«01_k».proof.Proof.Host
public import proofs.«01_k».proof.Proof.Math
public import Idealize.ShloMosaic.Lib.Pointwise

@[expose] public section

set_option maxRecDepth 16384

noncomputable section

namespace Cert.KernelIdeal.Gen

open Idealize.ShloMosaic Cert.Gat

theorem hsel_lo : ∀ (d : Fin 64) (e : Fin 2), hsel (ix2 (lo d) e) = if e.val = 0 then 1#1 else 0#1 := by decide +kernel
theorem hsel_hi : ∀ (d : Fin 64) (e : Fin 2), hsel (ix2 (hi d) e) = if e.val = 1 then 1#1 else 0#1 := by decide +kernel

theorem headsOf_lo (a : FVec Ideal S64x2x1 .f32) (d : Fin 64) (e : Fin 2) : headsOf a (ix2 (lo d) e) = if e.val = 0 then a (ix3 d 0 0) else 0 := by
  unfold headsOf
  pointwise
  rw [hsel_lo]
  have h : (⟨(lo d).val % 64, Nat.mod_lt _ (by decide)⟩ : Fin 64) = d := Fin.ext (Nat.mod_eq_of_lt d.isLt)
  match e with
  | 0 => exact congrArg (fun d => a (ix3 d 0 0)) h
  | 1 => rfl
theorem headsOf_hi (a : FVec Ideal S64x2x1 .f32) (d : Fin 64) (e : Fin 2) : headsOf a (ix2 (hi d) e) = if e.val = 1 then a (ix3 d 1 0) else 0 := by
  unfold headsOf
  pointwise
  rw [hsel_hi]
  have h : (⟨(hi d).val % 64, Nat.mod_lt _ (by decide)⟩ : Fin 64) = d := Fin.ext (by show (64 + d.val) % 64 = d.val; omega)
  match e with
  | 0 => rfl
  | 1 => exact congrArg (fun d => a (ix3 d 1 0)) h

theorem cols4_a (s : FVec Ideal S128x2 .f32) (q : Fin 128) (e : Fin 2) : cols4 s (ix2 q ⟨e.val, by omega⟩) = s (ix2 q e) := by
  pointwise [cols4, catC]
theorem cols4_b (s : FVec Ideal S128x2 .f32) (q : Fin 128) (e : Fin 2) : cols4 s (ix2 q ⟨2 + e.val, by omega⟩) = (slope : EReal) * s (ix2 q e) := by
  pointwise [cols4, catC]
  rw [slope_bits]
theorem rows4_a (s : FVec Ideal S128x2 .f32) (q : Fin 128) (e : Fin 2) : rows4 s (ix2 ⟨e.val, by omega⟩ q) = s (ix2 q e) := by
  pointwise [rows4, catR]
theorem rows4_b (s : FVec Ideal S128x2 .f32) (q : Fin 128) (e : Fin 2) : rows4 s (ix2 ⟨2 + e.val, by omega⟩ q) = (slope : EReal) * s (ix2 q e) := by
  pointwise [rows4, catR]
  rw [slope_bits]

theorem v0_rd (a : FVec Ideal S1x4096x128 .f32) (n : Fin 4096) (f : Fin 128) : shapeCast S4096x128 a shapeCasts_S1x4096x128_S4096x128 (ix2 n f) = a (ix3 0 n f) := by
  pointwise
theorem v1_rd (a : FVec Ideal S1x4096x4096 .f32) (n : Fin 4096) (f : Fin 4096) : shapeCast S4096x4096 a shapeCasts_S1x4096x4096_S4096x4096 (ix2 n f) = a (ix3 0 n f) := by
  pointwise
theorem v2_rd (a : FVec Ideal S1x4096x64 .f32) (n : Fin 4096) (f : Fin 64) : shapeCast S4096x64 a shapeCasts_S1x4096x64_S4096x64 (ix2 n f) = a (ix3 0 n f) := by
  pointwise
theorem v3_lo (a : FVec Ideal S128x2x64 .f32) (f : Fin 128) (d : Fin 64) : shapeCast S128x128 a shapeCasts_S128x2x64_S128x128 (ix2 f (lo d)) = a (ix3 f 0 d) := by
  pointwise
  congr 2 <;> apply Fin.ext <;> show _ = _ <;> simp [lo] <;> omega
theorem v3_hi (a : FVec Ideal S128x2x64 .f32) (f : Fin 128) (d : Fin 64) : shapeCast S128x128 a shapeCasts_S128x2x64_S128x128 (ix2 f (hi d)) = a (ix3 f 1 d) := by
  pointwise
  congr 2 <;> apply Fin.ext <;> show _ = _ <;> simp [hi] <;> omega
theorem v34_rd (a : FVec Ideal S128 .f32) (d : Fin 64) : shapeCast S1x64 (extractStridedSlice S64 ![0] a slices_S128_S64_0) shapeCasts_S64_S1x64 (ix2 0 d) = a (ix1 (lo d)) := by
  pointwise
  rfl
theorem v36_rd (a : FVec Ideal S128 .f32) (d : Fin 64) : shapeCast S1x64 (extractStridedSlice S64 ![64] a slices_S128_S64_64) shapeCasts_S64_S1x64 (ix2 0 d) = a (ix1 (hi d)) := by
  pointwise
  rfl

end Cert.KernelIdeal.Gen
end
-- ==== Proof.KState.lean ====
module

public import proofs.«01_k».proof.Proof.KGat
public import proofs.«01_k».proof.Proof.Blocks
public import proofs.«01_k».proof.Proof.HostRead

@[expose] public section

set_option maxRecDepth 16384

noncomputable section

namespace Cert.KernelIdeal.Gen

open Idealize.ShloMosaic Idealize.ShloMosaic.TcCoe Idealize.SL.Sem Cert.Gat

variable (m : (ℓ : Loc nD τ sig) → Buf (Elt Ideal) ℓ)

/-- The arguments, as the kernel is given them. -/
def argsK (c : Dev nD) : Args where
  X := m ((c : Thread nD τ).loc main_arg0)
  A := m ((c : Thread nD τ).loc main_arg1)
  H := m ((c : Thread nD τ).loc main_arg2)
  K := m ((c : Thread nD τ).loc main_arg3)
  S := m ((c : Thread nD τ).loc main_arg4)
  N := m ((c : Thread nD τ).loc main_arg5)
  B := m ((c : Thread nD τ).loc main_arg6)
  bu := m ((c : Thread nD τ).loc main_arg7)
  br := m ((c : Thread nD τ).loc main_arg8)
  bc := m ((c : Thread nD τ).loc main_arg9)
  Wu := m ((c : Thread nD τ).loc main_arg10)
  Wr := m ((c : Thread nD τ).loc main_arg11)
  Wc := m ((c : Thread nD τ).loc main_arg12)
  R := m ((c : Thread nD τ).loc main_arg13)

/-- The projection of both heads, and the products with the two vectors of each. -/
def V32 (c : Dev nD) : FVec Ideal S4x128 .f32 := V m c main_call0_v32
def XW (c : Dev nD) : FVec Ideal S4096x128 .f32 := k0_pay6 (V m c main_call0_v0) (V m c main_call0_v3)

attribute [local irreducible] V

section
variable {m} {c : Dev nD} (o : (argsK m c).Ok)
include o

theorem XW_lo (n : Fin 4096) (d : Fin 64) : XW m c (ix2 n (lo d)) = ((argsK m c).xk 0 n d : EReal) := by
  unfold XW
  rw [p6, ← Args.xk_eq o, V_v0, V_v3]
  exact Finset.sum_congr rfl fun f _ => congrArg₂ (· * ·) (v0_rd _ n f) (v3_lo _ f d)
theorem XW_hi (n : Fin 4096) (d : Fin 64) : XW m c (ix2 n (hi d)) = ((argsK m c).xk 1 n d : EReal) := by
  unfold XW
  rw [p6, ← Args.xk_eq o, V_v0, V_v3]
  exact Finset.sum_congr rfl fun f _ => congrArg₂ (· * ·) (v0_rd _ n f) (v3_hi _ f d)

/-- A sum over both heads' columns against a head's vector is a sum over its own. -/
theorem XW_heads (v : FVec Ideal S64x2x1 .f32) (s : Fin 128 → EReal) (w : EReal) (e : Fin 2) (hs : ∀ q, s q = w * headsOf v (ix2 q e)) (n : Fin 4096) :
    ∑ p : Fin 128, XW m c (ix2 n p) * s p = ∑ d : Fin 64, ((argsK m c).xk e n d : EReal) * (w * v (ix3 d e 0)) := by
  rw [sum128]
  simp only [XW_lo o, XW_hi o, hs, headsOf_lo, headsOf_hi]
  match e with
  | 0 => simp
  | 1 => simp

theorem fs_a (e : Fin 2) (n : Fin 4096) : ∑ p : Fin 128, XW m c (ix2 n p) * V m c main_call0_v24 (ix2 p ⟨e.val, by omega⟩) = ((argsK m c).fs e n : EReal) := by
  rw [V_v24, XW_heads o _ _ 1 e (fun q => (cols4_a _ q e).trans (one_mul _).symm) n, ← Args.fs_eq o]
  simp only [one_mul]
  rfl
theorem fs_b (e : Fin 2) (n : Fin 4096) : ∑ p : Fin 128, XW m c (ix2 n p) * V m c main_call0_v24 (ix2 p ⟨2 + e.val, by omega⟩) = ((Gat.slope * (argsK m c).fs e n : ℝ) : EReal) := by
  rw [V_v24, XW_heads o _ _ Gat.slope e (fun q => cols4_b _ q e) n, ← Args.fs_slope o]
  rfl
theorem fn_a (e : Fin 2) (n : Fin 4096) : ∑ p : Fin 128, XW m c (ix2 n p) * V m c main_call0_v27 (ix2 p ⟨e.val, by omega⟩) = ((argsK m c).fn e n : EReal) := by
  rw [V_v27, XW_heads o _ _ 1 e (fun q => (cols4_a _ q e).trans (one_mul _).symm) n, ← Args.fn_eq o]
  simp only [one_mul]
  rfl
theorem fn_b (e : Fin 2) (n : Fin 4096) : ∑ p : Fin 128, XW m c (ix2 n p) * V m c main_call0_v27 (ix2 p ⟨2 + e.val, by omega⟩) = ((Gat.slope * (argsK m c).fn e n : ℝ) : EReal) := by
  rw [V_v27, XW_heads o _ _ Gat.slope e (fun q => cols4_b _ q e) n, ← Args.fn_slope o]
  rfl
theorem fnr_a (e : Fin 2) (n : Fin 4096) : ∑ p : Fin 128, V32 m c (ix2 ⟨e.val, by omega⟩ p) * XW m c (ix2 n p) = ((argsK m c).fn e n : EReal) := by
  rw [← fn_a o e n, V_v27]
  unfold V32
  rw [V_v32]
  exact Finset.sum_congr rfl fun p _ => (mul_comm _ _).trans (congrArg (_ * ·) ((rows4_a _ p e).trans (cols4_a _ p e).symm))
theorem fnr_b (e : Fin 2) (n : Fin 4096) : ∑ p : Fin 128, V32 m c (ix2 ⟨2 + e.val, by omega⟩ p) * XW m c (ix2 n p) = ((Gat.slope * (argsK m c).fn e n : ℝ) : EReal) := by
  rw [← fn_b o e n, V_v27]
  unfold V32
  rw [V_v32]
  exact Finset.sum_congr rfl fun p _ => (mul_comm _ _).trans (congrArg (_ * ·) ((rows4_b _ p e).trans (cols4_b _ p e).symm))

theorem kF_sPt (k : Fin 8) : kF (sPt k) = k := by
  have h : ∀ k : Fin 8, kF (sPt k) = k := by decide +kernel
  exact h k
theorem wK_sPt (k : Fin 8) : wK (grid0.coords (sPt k)) = BitVec.ofNat 32 k.val := by
  have h : ∀ k : Fin 8, wK (grid0.coords (sPt k)) = BitVec.ofNat 32 k.val := by decide +kernel
  exact h k

theorem pay6_XW : k0_pay6 (V m c main_call0_v0) (V m c main_call0_v3) = XW m c := rfl
theorem I24_eq (n : Fin 4096) (e : Fin 2) : I24 m c (ix2 n e) = ((Real.exp (leaky ((argsK m c).fs e n + (argsK m c).fn e n)) : ℝ) : EReal) := by
  unfold I24
  rw [iblk0, iblk1, iblk2, iblk3, p1, p7, p7, pay6_XW o, ← max_exp_add]
  exact congrArg₂ max (congrArg Ideal.exp (congrArg₂ (· + ·) (fs_a o e n) (fn_a o e n))) (congrArg Ideal.exp (congrArg₂ (· + ·) (fs_b o e n) (fn_b o e n)))

theorem tab (k : Fin 8) : Tab (argsK m c) k (iblk m c 5 (sPt k)) (I20 m c) (I21 m c) (I22 m c) (I23 m c) (I24 m c) where
  h7 r j := by
    rw [iblk5, kF_sPt o, V_v1]
    exact (v1_rd _ _ _).trans (Args.A_eq o _ _)
  h20 n d := by
    unfold I20
    rw [iblk0, iblk1, p11, pay6_XW o]
    exact XW_lo o n d
  h20' n := by
    unfold I20
    exact p11' _ _ n
  h21 n d := by
    unfold I21
    rw [iblk0, iblk1, p12, pay6_XW o]
    exact XW_hi o n d
  h21' n := by
    unfold I21
    exact p12' _ _ n
  h22 n e := by
    unfold I22
    rw [iblk0, iblk1, iblk2, p8, p7, pay6_XW o]
    exact congrArg Ideal.exp (fs_a o e n)
  h22' n e := by
    unfold I22
    rw [iblk0, iblk1, iblk2, p8, p7, pay6_XW o]
    exact congrArg Ideal.exp (fs_b o e n)
  h23 n e := by
    unfold I23
    rw [iblk0, iblk1, iblk4]
    exact (p9 _ _ _ ⟨e.val, by omega⟩ n).trans (congrArg Ideal.exp (fnr_a o e n))
  h23' n e := by
    unfold I23
    rw [iblk0, iblk1, iblk4]
    exact (p9 _ _ _ ⟨2 + e.val, by omega⟩ n).trans (congrArg Ideal.exp (fnr_b o e n))
  h24 n e := I24_eq o n e

/-- Block `k` of the new state. -/
theorem H1_eq (k : Fin 8) (r : Fin 512) (q : Fin 64) : H1 m c k (ix2 r q) = (argsK m c).new (nk k r) q := by
  unfold H1 H1at
  refine gatH_eq o (tab o k) _ _ (wK_sPt o k) _ _ _ _ _ _ _ _ _ _ _ (fun r d => ?_) (fun r => ?_) (fun r => ?_) (fun r => ?_) (fun d => ?_) (fun d => ?_) ?_ ?_ ?_ r q
  · rw [iblk6, kF_sPt o, V_v2]; exact v2_rd _ _ _
  · rw [iblk7, kF_sPt o, V_main_arg7]; rfl
  · rw [iblk8, kF_sPt o, V_main_arg8]; rfl
  · rw [iblk9, kF_sPt o, V_main_arg9]; rfl
  · rw [iblk10, V_v34]; exact v34_rd _ d
  · rw [iblk11, V_v36]; exact v36_rd _ d
  · rw [iblk12, V_main_arg10]; rfl
  · rw [iblk13, V_main_arg11]; rfl
  · rw [iblk14, V_main_arg12]; rfl

theorem H1c_eq (k : Fin 8) (r : Fin 512) (q : Fin 64) : H1c m c k (ix2 r q) = (argsK m c).new (nk k r) q := by
  rw [← H1_eq o]
  unfold H1c
  rw [shapeCast_self]
theorem HR_eq (k : Fin 8) (r : Fin 512) (e : Fin 64) : HR m c k (ix2 r e) = ∑ d : Fin 64, (argsK m c).new (nk k r) d * (argsK m c).R (ix2 d e) := by
  unfold HR
  rw [pR, iblk15, V_main_arg13]
  exact Finset.sum_congr rfl fun d _ => congrArg (· * _) (H1_eq o k r d)
theorem tile_eq (i j : Fin 8) (r s : Fin 512) : tile m c i j (ix2 r s) = (argsK m c).prod (nk i r) (nk j s) := by
  unfold tile
  rw [p5]
  exact Finset.sum_congr rfl fun e _ => congrArg₂ (· * ·) (HR_eq o i r e) (H1c_eq o j s e)

end

end Cert.KernelIdeal.Gen
end
-- ==== Proof.KFinal.lean ====
module

public import proofs.«01_k».proof.Proof.KState

@[expose] public section

set_option maxRecDepth 16384

noncomputable section

namespace Cert.KernelIdeal.Gen

open Idealize.ShloMosaic Idealize.ShloMosaic.TcCoe Idealize.SL.Sem Cert.Gat

section
variable {F : FTy → Type} [FloatOps F]

/-- Where the results' blocks lie. -/
theorem emb16 (t : Fin grid0.N) (r s : Fin 512) : (((cfgT (F := F)).win 16).blk t).view.emb (ix2 r s) = (ix2 (nk (iF t) r) (nk (jF t) s) : S4096x4096.Idx) := by
  refine funext fun (a : Fin 2) => Fin.ext ?_
  refine (ValueKit.rect_emb_unit_val (s := S4096x4096) _ _ _ _ a).trans ?_
  match a with
  | 0 =>
    show (wI (grid0.coords t)).toNat * 512 + r.val = 512 * iOf t.val + r.val
    rw [wI_val, Nat.mul_comm]
  | 1 =>
    show (wJ (grid0.coords t)).toNat * 512 + s.val = 512 * jOf t.val + s.val
    rw [wJ_val, Nat.mul_comm]
theorem emb17 (t : Fin grid0.N) (r : Fin 512) (q : Fin 64) : (((cfgT (F := F)).win 17).blk t).view.emb (ix2 r q) = (ix2 (nk (kF t) r) q : S4096x64.Idx) := by
  refine funext fun (a : Fin 2) => Fin.ext ?_
  refine (ValueKit.rect_emb_unit_val (s := S4096x64) _ _ _ _ a).trans ?_
  match a with
  | 0 =>
    show (wK (grid0.coords t)).toNat * 512 + r.val = 512 * kOf t.val + r.val
    rw [wK_val, Nat.mul_comm]
  | 1 => exact Nat.zero_add _

theorem tiles : ∀ i j : Fin 8, ∃ t : Fin grid0.N, (t.val ≠ 0 ∧ lG (t.val + 1) ≠ 1) ∧ iF t = i ∧ jF t = j := by decide +kernel
theorem rows : ∀ k : Fin 8, ∃ t : Fin grid0.N, (t.val + 1 = 72 ∨ lG (t.val + 1) = 1) ∧ kF t = k := by decide +kernel

theorem nk_split (n : Fin 4096) : nk ⟨n.val / 512, by omega⟩ ⟨n.val % 512, by omega⟩ = n := Fin.ext (by show 512 * (n.val / 512) + n.val % 512 = n.val; omega)

theorem cover16 (i : S4096x4096.Idx) : ∃ t : Fin grid0.N, ((cfgT (F := F)).win 16).flush t = true ∧ i ∈ (((cfgT (F := F)).win 16).blk t).view.set := by
  obtain ⟨p, q, rfl⟩ : ∃ p q : Fin 4096, i = ix2 p q := ⟨i 0, i 1, by funext (a : Fin 2); match a with | 0 => rfl | 1 => rfl⟩
  obtain ⟨t, hf, hi, hj⟩ := tiles ⟨p.val / 512, by omega⟩ ⟨q.val / 512, by omega⟩
  refine ⟨t, (flush16 t).trans (decide_eq_true hf), ?_⟩
  have h := emb16 (F := F) t ⟨p.val % 512, by omega⟩ ⟨q.val % 512, by omega⟩
  rw [hi, hj, nk_split, nk_split] at h
  rw [← h]
  exact View.emb_mem_set _ _
theorem cover17 (i : S4096x64.Idx) : ∃ t : Fin grid0.N, ((cfgT (F := F)).win 17).flush t = true ∧ i ∈ (((cfgT (F := F)).win 17).blk t).view.set := by
  obtain ⟨p, q, rfl⟩ : ∃ (p : Fin 4096) (q : Fin 64), i = ix2 p q := ⟨i 0, i 1, by funext (a : Fin 2); match a with | 0 => rfl | 1 => rfl⟩
  obtain ⟨t, hf, hi⟩ := rows ⟨p.val / 512, by omega⟩
  refine ⟨t, (flush17 t).trans (decide_eq_true hf), ?_⟩
  have h := emb17 (F := F) t ⟨p.val % 512, by omega⟩ q
  rw [hi, nk_split] at h
  rw [← h]
  exact View.emb_mem_set _ _

end

variable (m : (ℓ : Loc nD τ sig) → Buf (Elt Ideal) ℓ)

/-- The two results. -/
def outA (a : Args) : FVec Ideal S4096x4096 .f32 := fun i => a.prod (i 0) (i 1)
def outH (a : Args) : FVec Ideal S4096x64 .f32 := fun i => a.new (i 0) (i 1)

variable {m} {c : Dev nD} (o : (argsK m c).Ok)
include o

theorem arr16 : (dats m 0 c).arrAt 16 (cfgT (F := Ideal)).N = outA (argsK m c) := by
  refine (dats m 0 c).arrAt_eq_of_emb 16 (outA (argsK m c)) (fun t _ y => ?_) cover16
  obtain ⟨r, s, rfl⟩ : ∃ r s : Fin 512, y = (ix2 r s : S512x512.Idx) := ⟨y 0, y 1, by funext (a : Fin 2); match a with | 0 => rfl | 1 => rfl⟩
  refine Eq.trans ?_ (congrArg (outA (argsK m c)) (emb16 (F := Ideal) t r s)).symm
  rw [after0_16]
  exact tile_eq o (iF t) (jF t) r s
theorem arr17 : (dats m 0 c).arrAt 17 (cfgT (F := Ideal)).N = outH (argsK m c) := by
  refine (dats m 0 c).arrAt_eq_of_emb 17 (outH (argsK m c)) (fun t _ y => ?_) cover17
  obtain ⟨r, q, rfl⟩ : ∃ (r : Fin 512) (q : Fin 64), y = (ix2 r q : S512x64.Idx) := ⟨y 0, y 1, by funext (a : Fin 2); match a with | 0 => rfl | 1 => rfl⟩
  refine Eq.trans ?_ (congrArg (outH (argsK m c)) (emb17 (F := Ideal) t r q)).symm
  rw [after0_17]
  exact H1_eq o (kF t) r q

end Cert.KernelIdeal.Gen
end
-- ==== Proof.Pre.lean ====
module

public import proofs.«01_k».proof.Defs
public import proofs.«01_k».proof.Proof.Gen.Pre_graph_and_finite
public import proofs.«01_k».proof.Proof.Spec

@[expose] public section

noncomputable section

namespace Cert.Gat

open Idealize.ShloMosaic

theorem bits_top : Ideal.ofBits .f32 0x7F800000#32 = ⊤ := by simp [Ideal.ofBits, Ideal.ieee]

theorem real_of_abs (x : EReal) (h : BitVec.ofBool (decide (max x (-x) < Ideal.ofBits .f32 0x7F800000#32)) = 1#1) : ∃ r : ℝ, x = r := by
  rw [bits_top] at h
  have h' : max x (-x) < ⊤ := by
    by_contra hn
    simp [hn] at h
  induction x using EReal.rec with
  | bot => simp at h'
  | coe r => exact ⟨r, rfl⟩
  | top => simp at h'

theorem zero_or_one (x : EReal)
    (h : IntOp.ori (BitVec.ofBool (decide (x = Ideal.ofBits .f32 0x00000000#32))) (BitVec.ofBool (decide (x = Ideal.ofBits .f32 0x3F800000#32))) = 1#1) : x = 0 ∨ x = 1 := by
  rw [Ideal.ofBits_zero_f32, Ideal.ofBits_one_f32] at h
  by_contra hn
  rw [not_or] at hn
  simp [hn.1, hn.2, IntOp.ori] at h

end Cert.Gat
end
-- ==== Proof.Ref.lean ====
module

public import proofs.«01_k».proof.Proof.Gen.ReferenceIdeal.Run
public import proofs.«01_k».proof.Proof.Spec
public import Idealize.ShloMosaic.Lib.Pointwise
public import Idealize.ShloMosaic.Lib.IdealHost

@[expose] public section

set_option maxRecDepth 16384

noncomputable section

namespace Cert.ReferenceIdeal.Value

open Idealize.ShloMosaic Idealize.ShloMosaic.TcCoe Idealize.ShloMosaic.StableHlo Cert.ReferenceIdeal Cert.ReferenceIdeal.Gen Idealize.SL.Sem Cert.Gat

variable (V0 : Valuation τ sig (Elt Ideal))

/-- The arguments, as the reference is given them. -/
def argsR : Args where
  X := V0 (Proc.devRef .tc main_arg0)
  A := V0 (Proc.devRef .tc main_arg1)
  H := V0 (Proc.devRef .tc main_arg2)
  K := V0 (Proc.devRef .tc main_arg3)
  S := V0 (Proc.devRef .tc main_arg4)
  N := V0 (Proc.devRef .tc main_arg5)
  B := V0 (Proc.devRef .tc main_arg6)
  bu := V0 (Proc.devRef .tc main_arg7)
  br := V0 (Proc.devRef .tc main_arg8)
  bc := V0 (Proc.devRef .tc main_arg9)
  Wu := V0 (Proc.devRef .tc main_arg10)
  Wr := V0 (Proc.devRef .tc main_arg11)
  Wc := V0 (Proc.devRef .tc main_arg12)
  R := V0 (Proc.devRef .tc main_arg13)

def rv0 : FVec Ideal S4096x128 .f32 := res_main_v0 V0
def rv2 : FVec Ideal S4096x64 .f32 := res_main_v2 V0
def rv9 : FVec Ideal S4096x4096 .f32 := res_main_v9 V0
def rv12 : FVec Ideal S4096x64 .f32 := res_main_v12 V0
def rv22 : FVec Ideal S4096x4096 .f32 := res_main_v22 V0
def rv25 : FVec Ideal S4096x4096 .f32 := res_main_v25 V0
def rv32 : FVec Ideal S4096x4096 .f32 := res_main_v32 V0
def rv40 : FVec Ideal S4096x64 .f32 := res_main_v40 V0
def rv50 : FVec Ideal S4096x4096 .f32 := res_main_v50 V0
def rv53 : FVec Ideal S4096x4096 .f32 := res_main_v53 V0
def rv60 : FVec Ideal S4096x4096 .f32 := res_main_v60 V0
def rv69 : FVec Ideal S4096x128 .f32 := res_main_v69 V0
def rv79 : FVec Ideal S4096x64 .f32 := res_main_v79 V0
def rv99 : FVec Ideal S4096x64 .f32 := res_main_v99 V0
def rv102 (h : FVec Ideal S4096x64 .f32) (w : FVec Ideal S64x64 .f32) : FVec Ideal S4096x4096 .f32 :=
  Host.dotGeneral dot_S4096x64_S64x4096_S4096x4096_1_0_0_1_n_n none (Host.dotGeneral dot_S4096x64_S64x64_S4096x64_1_0_0_1_n_n none h w) (transpose S64x4096 [1, 0] h transposes_S4096x64_S64x4096_1_0)

theorem rd0 (n : Fin 4096) (f : Fin 128) : rv0 V0 (ix2 n f) = (argsR V0).X (ix3 0 n f) := by
  pointwise [rv0, res_main_v0]
  rfl
theorem rd2 (n : Fin 4096) (f : Fin 64) : rv2 V0 (ix2 n f) = (argsR V0).old n f := by
  pointwise [rv2, res_main_v2]
  rfl

/-- A row's largest masked score. -/
def rowRed (x : FVec Ideal S4096x4096 .f32) : FVec Ideal S4096 .f32 := Host.reduce FloatOps.maximumf x (constant S_ .f32 0xFF800000#32) reducesTo_S4096x4096_S4096_d1 h_S_
def rowTop (R : FVec Ideal S4096 .f32) : FVec Ideal S4096 .f32 := maximumf (broadcastInDim S4096 ![] bcast_S_S4096 (constant S_ .f32 0xFF800000#32)) R
def rowMax (x : FVec Ideal S4096x4096 .f32) : FVec Ideal S4096 .f32 := rowTop (rowRed x)
theorem rowTop_rd (R : FVec Ideal S4096 .f32) (i : Fin 4096) : rowTop R (ix1 i) = max ⊥ (R (ix1 i)) := by
  rw [← bits_bot]
  pointwise [rowTop]
theorem drop_diag {n : ℕ} (h : (⟨2, ![n, n]⟩ : Shape).ReducesTo [1] (⟨1, ![n]⟩ : Shape)) (i : Fin n) : h.drop (ix2 i i) = ix1 i := by
  funext (a : Fin 1)
  match a with
  | 0 => rfl
def softNum (x : FVec Ideal S4096x4096 .f32) (M : FVec Ideal S4096 .f32) : FVec Ideal S4096x4096 .f32 :=
  Host.exp (subf x (broadcastInDim S4096x4096 ![0, 1] bcast_S4096x1_S4096x4096_0_1 (broadcastInDim S4096x1 ![0] bcast_S4096_S4096x1_0 M)))
theorem softNum_rd (x : FVec Ideal S4096x4096 .f32) (M : FVec Ideal S4096 .f32) (i j : Fin 4096) : softNum x M (ix2 i j) = Ideal.exp (x (ix2 i j) - M (ix1 i)) := by
  pointwise [softNum]
theorem rowMax_real (x : FVec Ideal S4096x4096 .f32) (i : Fin 4096) (ht : ∀ y, x y ≠ ⊤) (hb : x (ix2 i i) ≠ ⊥) : ∃ M : ℝ, rowMax x (ix1 i) = (M : EReal) := by
  unfold rowMax
  rw [rowTop_rd]
  unfold rowRed
  exact reduce_real x _ _ _ (ix1 i) bits_bot ht (ix2 i i) (drop_diag _ i) hb
theorem masked_ne_top (P : Prop) [Decidable P] (z : ℝ) : (z : EReal) + (if P then ⊥ else 0) ≠ ⊤ := by
  by_cases h : P
  · rw [if_pos h]; simp
  · rw [if_neg h, add_zero]; exact EReal.coe_ne_top _

section
variable {V0} (o : (argsR V0).Ok)
include o

theorem rd12 (n : Fin 4096) (d : Fin 64) : rv12 V0 (ix2 n d) = ((argsR V0).xk 0 n d : EReal) := by
  pointwise [rv12, res_main_v12]
  exact (Finset.sum_congr rfl fun f _ => congrArg (· * _) (rd0 V0 n f)).trans (Args.xk_eq o 0 n d)
theorem rd40 (n : Fin 4096) (d : Fin 64) : rv40 V0 (ix2 n d) = ((argsR V0).xk 1 n d : EReal) := by
  pointwise [rv40, res_main_v40]
  exact (Finset.sum_congr rfl fun f _ => congrArg (· * _) (rd0 V0 n f)).trans (Args.xk_eq o 1 n d)
theorem rd22 (i j : Fin 4096) : rv22 V0 (ix2 i j) = (((argsR V0).fs 0 i + (argsR V0).fn 0 j : ℝ) : EReal) := by
  pointwise [rv22, res_main_v22]
  rw [EReal.coe_add]
  exact congrArg₂ (· + ·) ((Finset.sum_congr rfl fun f _ => congrArg (· * _) (rd12 o i f)).trans (Args.fs_eq o 0 i))
    ((Finset.sum_congr rfl fun f _ => congrArg (· * _) (rd12 o j f)).trans (Args.fn_eq o 0 j))
theorem rd50 (i j : Fin 4096) : rv50 V0 (ix2 i j) = (((argsR V0).fs 1 i + (argsR V0).fn 1 j : ℝ) : EReal) := by
  pointwise [rv50, res_main_v50]
  rw [EReal.coe_add]
  exact congrArg₂ (· + ·) ((Finset.sum_congr rfl fun f _ => congrArg (· * _) (rd40 o i f)).trans (Args.fs_eq o 1 i))
    ((Finset.sum_congr rfl fun f _ => congrArg (· * _) (rd40 o j f)).trans (Args.fn_eq o 1 j))
theorem rd9 (i j : Fin 4096) : rv9 V0 (ix2 i j) = if (if j = i then 1 else ((argsR V0).adj i j : EReal)) = 0 then ⊥ else 0 := by
  pointwise [rv9, res_main_v9]
  rw [sel_diag i j _ _ (by norm_num), bits_bot, ← Args.A_eq o]
  have h1 : id (constant (F := Ideal) S_ .f32 0x3F800000#32) ix0 = (1 : EReal) := Ideal.ofBits_one_f32
  rw [h1]
  rfl
theorem score (v v9 : EReal) (z : ℝ) (b : EReal) (h : v = z) (h9 : v9 = b) :
    (if 0 ≤ v then v else id (constant (F := Ideal) S_ .f32 0x3E4CCCCD#32) ix0 * v) + v9 = ((leaky z : ℝ) : EReal) + b := by
  have h1 : id (constant (F := Ideal) S_ .f32 0x3E4CCCCD#32) ix0 = (slope : EReal) := slope_bits
  rw [h1, h, h9, leaky_coe]
theorem rd25 (i j : Fin 4096) : rv25 V0 (ix2 i j) = ((leaky ((argsR V0).fs 0 i + (argsR V0).fn 0 j) : ℝ) : EReal) + (if (if j = i then 1 else ((argsR V0).adj i j : EReal)) = 0 then ⊥ else 0) := by
  pointwise [rv25, res_main_v25]
  exact score o _ _ _ _ (rd22 o i j) (rd9 o i j)
theorem rd53 (i j : Fin 4096) : rv53 V0 (ix2 i j) = ((leaky ((argsR V0).fs 1 i + (argsR V0).fn 1 j) : ℝ) : EReal) + (if (if j = i then 1 else ((argsR V0).adj i j : EReal)) = 0 then ⊥ else 0) := by
  pointwise [rv53, res_main_v53]
  exact score o _ _ _ _ (rd50 o i j) (rd9 o i j)

/-- A head's softmax, averaged. -/
theorem soft (h : Fin 2) (x : FVec Ideal S4096x4096 .f32)
    (hx : ∀ i j : Fin 4096, x (ix2 i j) = ((leaky ((argsR V0).fs h i + (argsR V0).fn h j) : ℝ) : EReal) + (if (if j = i then 1 else ((argsR V0).adj i j : EReal)) = 0 then ⊥ else 0))
    (i : Fin 4096) (d : Fin 64) :
    ∑ j : Fin 4096, Ideal.div (softNum x (rowMax x) (ix2 i j)) (∑ k : Fin 4096, softNum x (rowMax x) (ix2 i k)) * ((argsR V0).xk h j d : EReal) = ((argsR V0).conv h i d : EReal) := by
  obtain ⟨M, hM⟩ := rowMax_real x i (fun y => by
      obtain ⟨p, q, rfl⟩ : ∃ p q : Fin 4096, y = ix2 p q := ⟨y 0, y 1, by funext (a : Fin 2); match a with | 0 => rfl | 1 => rfl⟩
      rw [hx]
      exact masked_ne_top _ _)
    (by rw [hx, if_pos rfl, if_neg one_ne_zero, add_zero]; exact EReal.coe_ne_bot _)
  refine att_soft i ((argsR V0).adj i) _ _ (Args.adj_zo o i) M _ _ fun j => ?_
  rw [softNum_rd, hx, hM]

theorem rd69lo (i : Fin 4096) (d : Fin 64) : rv69 V0 (ix2 i (lo d)) = (argsR V0).c0 i d := by
  pointwise [rv69, res_main_v69, lo]
  refine congrArg₂ (· + ·) (Eq.trans ?_ (soft o 0 (rv25 V0) (rd25 o) i d)) rfl
  exact Finset.sum_congr rfl fun j _ => congrArg₂ (· * ·) rfl (rd12 o j d)
theorem rd69hi (i : Fin 4096) (d : Fin 64) : rv69 V0 (ix2 i (hi d)) = (argsR V0).c1 i d := by
  pointwise [rv69, res_main_v69, hi]
  refine congrArg₂ (· + ·) (Eq.trans ?_ (soft o 1 (rv53 V0) (rd53 o) i d)) rfl
  exact Finset.sum_congr rfl fun j _ => congrArg₂ (· * ·) rfl (rd40 o j d)

/-- A gate's product of 192, by its three parts. -/
theorem dot192 (s : Fin 4096 → Fin 64 → EReal) (s' : Fin 64 → EReal) (b : FVec Ideal S4096x1 .f32) (W : FVec Ideal S192x64 .f32) (n : Fin 4096) (q : Fin 64) (hs : ∀ d, s' d = s n d) :
    b (ix2 n 0) + (∑ x : Fin 128, rv69 V0 (ix2 n x) * W (ix2 ⟨x.val, by omega⟩ q) + ∑ x : Fin 64, s' x * W (ix2 ⟨128 + x.val, by omega⟩ q)) = (argsR V0).lin s b W n q := by
  unfold Args.lin
  rw [sum128]
  simp only [rd69lo o, rd69hi o, hs]
  rfl
theorem rd79 (n : Fin 4096) (q : Fin 64) : rv79 V0 (ix2 n q) = (argsR V0).u n q := by
  pointwise [rv79, res_main_v79, res_main_v70]
  exact congrArg Ideal.logistic (dot192 o (argsR V0).old _ (argsR V0).bu (argsR V0).Wu n q (rd2 V0 n))
theorem rd99 (n : Fin 4096) (q : Fin 64) : rv99 V0 (ix2 n q) = (argsR V0).new n q := by
  pointwise [rv99, res_main_v99, res_main_v70]
  refine congrArg₂ (· + ·) (congrArg₂ (· * ·) (rd79 o n q) (rd2 V0 n q)) (congrArg₂ (· * ·) (congrArg (1 - ·) (rd79 o n q)) (congrArg Ideal.tanh ?_))
  refine dot192 o (fun n d => (argsR V0).r n d * (argsR V0).old n d) _ (argsR V0).bc (argsR V0).Wc n q fun d => ?_
  exact congrArg₂ (· * ·) (congrArg Ideal.logistic (dot192 o (argsR V0).old _ (argsR V0).br (argsR V0).Wr n d (rd2 V0 n))) (rd2 V0 n d)
theorem rd102 (i j : Fin 4096) : rv102 (rv99 V0) (argsR V0).R (ix2 i j) = (argsR V0).prod i j := by
  pointwise [rv102]
  exact Finset.sum_congr rfl fun e _ => congrArg₂ (· * ·) (Finset.sum_congr rfl fun d _ => congrArg₂ (· * ·) (rd99 o i d) rfl) (rd99 o j e)

end

end Cert.ReferenceIdeal.Value
end
-- ==== Proof.Algebraic.lean ====
module

public import proofs.«01_k».proof.Proof.KFinal
public import proofs.«01_k».proof.Proof.Frame
public import proofs.«01_k».proof.Proof.Pre
public import proofs.«01_k».proof.Proof.Ref
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem Cert.Gat

/-- What the precondition says of the arguments. -/
theorem ok_of_fn (a : Args) [Cert.Pre_graph_and_finite.Facts]
    (h : let p := Cert.Pre_graph_and_finite.fn (F := Ideal) a.X a.A a.H a.K a.S a.N a.B a.bu a.br a.bc a.Wu a.Wr a.Wc a.R
      p.1 = (fun _ => 1#1) ∧ p.2.1 = (fun _ => 1#1) ∧ p.2.2.1 = (fun _ => 1#1) ∧ p.2.2.2.1 = (fun _ => 1#1) ∧ p.2.2.2.2 = (fun _ => 1#1)) : a.Ok where
  hA i := zero_or_one _ (congrFun h.1 i)
  hX i := real_of_abs _ (congrFun h.2.1 i)
  hK i := real_of_abs _ (congrFun h.2.2.1 i)
  hS i := real_of_abs _ (congrFun h.2.2.2.1 i)
  hN i := real_of_abs _ (congrFun h.2.2.2.2 i)

section
open Cert.KernelIdeal Cert.KernelIdeal.Gen
theorem run_k (m : (ℓ : Loc nD τ sig) → Buf (Elt Ideal) ℓ) (ρ : Dev nD → PrngReg) (o : ∀ c, (argsK m c).Ok) :
    θ_run defs (onTc (τ := τ) (main (F := Ideal))) ⟨m, fun _ => 0, ρ⟩ (fun r => ∀ c : Dev nD,
      r.2.mem ((c.tc : Thread nD τ).loc main_v0_0) = outA (argsK m c)
      ∧ r.2.mem ((c.tc : Thread nD τ).loc main_v0_1) = outH (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1 c).1 16).trans (arr16 (o c)), ((h.1 c).1 17).trans (arr17 (o c)), args_kept m h.1 c⟩) (run_main m ρ)
end

section
open Cert.ReferenceIdeal Cert.ReferenceIdeal.Value
theorem ref_H (V0 : Valuation τ sig (Elt Ideal)) (a : Args) (e : argsR V0 = a) (o : a.Ok) : rv99 V0 = Cert.KernelIdeal.Gen.outH a := by
  subst e
  funext i
  obtain ⟨p, q, rfl⟩ : ∃ (p : Fin 4096) (q : Fin 64), i = ix2 p q := ⟨i 0, i 1, by funext (a : Fin 2); match a with | 0 => rfl | 1 => rfl⟩
  exact rd99 o p q
theorem ref_A (V0 : Valuation τ sig (Elt Ideal)) (a : Args) (e : argsR V0 = a) (o : a.Ok) : rv102 (rv99 V0) (argsR V0).R = Cert.KernelIdeal.Gen.outA a := by
  subst e
  funext i
  obtain ⟨p, q, rfl⟩ : ∃ p q : Fin 4096, i = ix2 p q := ⟨i 0, i 1, by funext (a : Fin 2); match a with | 0 => rfl | 1 => rfl⟩
  exact rd102 o p q
theorem run_r (m : (ℓ : Loc nD τ sig) → Buf (Elt Ideal) ℓ) (ρ : Dev nD → PrngReg) (a : Dev nD → Args) (e : ∀ c, argsR (launchContents m c) = a c) (o : ∀ c, (a c).Ok) :
    θ_run defs (onTc (τ := τ) (main (F := Ideal))) ⟨m, fun _ => 0, ρ⟩ (fun r => ∀ c : Dev nD,
      r.2.mem ((c.tc : Thread nD τ).loc main_v102) = Cert.KernelIdeal.Gen.outA (a c)
      ∧ r.2.mem ((c.tc : Thread nD τ).loc main_v99) = Cert.KernelIdeal.Gen.outH (a c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (ref_A _ _ (e c) (o c)), (h c).2.1.trans (ref_H _ _ (e c) (o c)), (h c).2.2⟩) (run (F := Ideal) m ρ)
end

/-- Equal results, from equal arguments. -/
theorem algebraic : Cert.algebraic_KernelIdeal_ReferenceIdeal_pre_graph_and_finite := by
  intro m g m' g' hp h
  have o : ∀ c, (Cert.KernelIdeal.Gen.argsK m c).Ok := fun c => ok_of_fn (Cert.KernelIdeal.Gen.argsK m c) (hp c)
  have e : ∀ c, Cert.ReferenceIdeal.Value.argsR (launchContents m' c) = Cert.KernelIdeal.Gen.argsK m c := fun c => by
    obtain ⟨h0, h1, h2, h3, h4, h5, h6, h7, h8, h9, h10, h11, h12, h13⟩ := h c
    exact (Args.mk.injEq ..).mpr ⟨h0, h1, h2, h3, h4, h5, h6, h7, h8, h9, h10, h11, h12, h13⟩
  exact ⟨fun c => Cert.KernelIdeal.Gen.outA (Cert.KernelIdeal.Gen.argsK m c), fun c => Cert.KernelIdeal.Gen.outH (Cert.KernelIdeal.Gen.argsK m c), run_k m g o, run_r m' g' _ e o⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_graph_and_finite
public import proofs.«01_k».proof.Proof.Frame
public import proofs.«01_k».proof.Proof.Bits.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel's run: it ends, its arguments unchanged and every semaphore at zero. -/
theorem frame_k : Cert.quiescent_Kernel :=
  fun m g _ => Cert.Kernel.Gen.frame (F := Bits) m g

/-- The same of the kernel over the extended reals. -/
theorem frame_ki : Cert.quiescent_KernelIdeal :=
  fun m g _ => Cert.KernelIdeal.Gen.frame (F := Ideal) m g

/-- The reference's run: host operations, none of which writes an argument; no semaphore is declared. -/
theorem frame_ri : Cert.quiescent_ReferenceIdeal :=
  fun m g _ => (θ_run Cert.ReferenceIdeal.defs _ _).mono
    (fun r h => ⟨fun c => (h c).2.2, sem_eq_zero_of_no_sems (by decide) r.2⟩)
    (Cert.ReferenceIdeal.Value.run (F := Ideal) m g)

/-- The same two runs where the precondition is given: it is not needed. -/
theorem frame_ki_pre : Cert.quiescent_KernelIdeal_pre_graph_and_finite :=
  fun m g _ => Cert.KernelIdeal.Gen.frame (F := Ideal) m g
theorem frame_ri_pre : Cert.quiescent_ReferenceIdeal_pre_graph_and_finite :=
  fun m g _ => frame_ri m g trivial

theorem claim : Cert.Claim :=
  ⟨Cert.Kernel.Gen.facts, Cert.KernelIdeal.Gen.facts, Cert.ReferenceIdeal.Gen.facts, Cert.Pre_graph_and_finite.Gen.facts, frame_k, frame_ki, frame_ki_pre, frame_ri, frame_ri_pre, trivial, algebraic⟩

end Cert.Proof
end
